-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_norm_w_in_range [hPre_norm_w_in_range : Cert.Pre_norm_w_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_norm_w_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_norm_w_in_range [hPre_norm_w_in_range : Cert.Pre_norm_w_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_norm_w_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_norm_w_in_range [hKernelIdeal : Cert.KernelIdeal.Facts] [hPre_norm_w_in_range : Cert.Pre_norm_w_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_norm_w_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_norm_w_in_range [hReferenceIdeal : Cert.ReferenceIdeal.Facts] [hPre_norm_w_in_range : Cert.Pre_norm_w_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_norm_w_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_norm_w_in_range [hKernelIdeal : Cert.KernelIdeal.Facts] [hReferenceIdeal : Cert.ReferenceIdeal.Facts] [hPre_norm_w_in_range : Cert.Pre_norm_w_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_norm_w_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_v11) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_v83) = v3 c
          ∧ r.2.mem ((c.tc : Thread Cert.ReferenceIdeal.nD Cert.ReferenceIdeal.τ).loc Cert.ReferenceIdeal.main_v31) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_norm_w_in_range : Cert.Pre_norm_w_in_range.Facts),
    quiescent_Kernel (hKernel := hKernel)
    ∧ quiescent_KernelIdeal (hKernelIdeal := hKernelIdeal)
    ∧ quiescent_KernelIdeal_pre_norm_w_in_range (hKernelIdeal := hKernelIdeal) (hPre_norm_w_in_range := hPre_norm_w_in_range)
    ∧ quiescent_ReferenceIdeal (hReferenceIdeal := hReferenceIdeal)
    ∧ quiescent_ReferenceIdeal_pre_norm_w_in_range (hReferenceIdeal := hReferenceIdeal) (hPre_norm_w_in_range := hPre_norm_w_in_range)
    ∧ preserves_Kernel_KernelIdeal
    ∧ algebraic_KernelIdeal_ReferenceIdeal_pre_norm_w_in_range (hKernelIdeal := hKernelIdeal) (hReferenceIdeal := hReferenceIdeal) (hPre_norm_w_in_range := hPre_norm_w_in_range)
-- ==== Pre_norm_w_in_range.lean ====
abbrev S4x1024x5120 : Shape := ⟨3, ![4, 1024, 5120]⟩
abbrev S5120 : Shape := ⟨1, ![5120]⟩
abbrev S5120x7680 : Shape := ⟨2, ![5120, 7680]⟩
abbrev S7680 : Shape := ⟨1, ![7680]⟩
abbrev S128 : Shape := ⟨1, ![128]⟩
abbrev S_ : Shape := ⟨0, ![]⟩

class Facts : Prop where
  bitsLt_bf16_f32 : FTy.bits .bf16 < FTy.bits .f32
  bcast_S_S5120 : S_.BroadcastsInDim S5120 (![] : Fin 0 → Fin S5120.rank)

variable [Facts]

def fn {F : FTy → Type} [FloatOps F] (main_arg0 : FVec F S4x1024x5120 .bf16) (main_arg1 : FVec F S5120 .bf16) (main_arg2 : FVec F S5120x7680 .fp8e4m3) (main_arg3 : FVec F S7680 .f32) (main_arg4 : FVec F S128 .bf16) (main_arg5 : FVec F S128 .bf16) : IVec S5120 1 :=
  let main_v0 : FVec F S5120 .f32 := (extf .f32 · bitsLt_bf16_f32) main_arg1
  let main_v1 : FVec F S5120 .f32 := Host.absf main_v0
  let main_cst : FVec F S_ .f32 := constant S_ .f32 0x7F7F0000#32
  let main_v2 : FVec F S5120 .f32 := broadcastInDim S5120 ![] bcast_S_S5120 main_cst
  let main_v3 : IVec S5120 1 := cmpf .ole main_v1 main_v2
  main_v3
-- ==== Kernel.lean ====
abbrev S4x1024x5120 : Shape := ⟨3, ![4, 1024, 5120]⟩
abbrev S5120 : Shape := ⟨1, ![5120]⟩
abbrev S5120x7680 : Shape := ⟨2, ![5120, 7680]⟩
abbrev S7680 : Shape := ⟨1, ![7680]⟩
abbrev S128 : Shape := ⟨1, ![128]⟩
abbrev S4096x5120 : Shape := ⟨2, ![4096, 5120]⟩
abbrev S1x5120 : Shape := ⟨2, ![1, 5120]⟩
abbrev S4096x128 : Shape := ⟨2, ![4096, 128]⟩
abbrev S32x1x128 : Shape := ⟨3, ![32, 1, 128]⟩
abbrev S128x5120 : Shape := ⟨2, ![128, 5120]⟩
abbrev S128x128 : Shape := ⟨2, ![128, 128]⟩
abbrev S1x1x128 : Shape := ⟨3, ![1, 1, 128]⟩
abbrev S128x1 : Shape := ⟨2, ![128, 1]⟩
abbrev S1x128 : Shape := ⟨2, ![1, 128]⟩
abbrev S1x7680 : Shape := ⟨2, ![1, 7680]⟩
abbrev S4x20x1024x128 : Shape := ⟨4, ![4, 20, 1024, 128]⟩
abbrev S512x5120 : Shape := ⟨2, ![512, 5120]⟩
abbrev S512x128 : Shape := ⟨2, ![512, 128]⟩
abbrev S5120x1536 : Shape := ⟨2, ![5120, 1536]⟩
abbrev S1x1536 : Shape := ⟨2, ![1, 1536]⟩
abbrev S1x4x512x128 : Shape := ⟨4, ![1, 4, 512, 128]⟩
abbrev S512x1536 : Shape := ⟨2, ![512, 1536]⟩
abbrev S512 : Shape := ⟨1, ![512]⟩
abbrev S512x1 : Shape := ⟨2, ![512, 1]⟩
abbrev S1x1x512x128 : Shape := ⟨4, ![1, 1, 512, 128]⟩
abbrev S4x1024x20x128 : Shape := ⟨4, ![4, 1024, 20, 128]⟩
abbrev S4x1024x1 : Shape := ⟨3, ![4, 1024, 1]⟩

abbrev nBuf : Space → Nat
  | .hbm => 22
  | .vmem => 25
  | .smem => 0
  | _ => 0

abbrev bufTy : (tb : Table) → Fin (tcTables nBuf tb) → BufTy
  | .hbm, ⟨0, _⟩ => ⟨S4x1024x5120, .bf16⟩
  | .hbm, ⟨1, _⟩ => ⟨S5120, .bf16⟩
  | .hbm, ⟨2, _⟩ => ⟨S5120x7680, .fp8e4m3⟩
  | .hbm, ⟨3, _⟩ => ⟨S7680, .f32⟩
  | .hbm, ⟨4, _⟩ => ⟨S128, .bf16⟩
  | .hbm, ⟨5, _⟩ => ⟨S128, .bf16⟩
  | .hbm, ⟨6, _⟩ => ⟨S4096x5120, .bf16⟩
  | .hbm, ⟨7, _⟩ => ⟨S1x5120, .bf16⟩
  | .hbm, ⟨8, _⟩ => ⟨S4096x5120, .fp8e4m3⟩
  | .hbm, ⟨9, _⟩ => ⟨S4096x128, .f32⟩
  | .hbm, ⟨10, _⟩ => ⟨S32x1x128, .f32⟩
  | .hbm, ⟨11, _⟩ => ⟨S1x7680, .f32⟩
  | .hbm, ⟨12, _⟩ => ⟨S1x128, .bf16⟩
  | .hbm, ⟨13, _⟩ => ⟨S1x128, .bf16⟩
  | .hbm, ⟨14, _⟩ => ⟨S4x20x1024x128, .bf16⟩
  | .hbm, ⟨15, _⟩ => ⟨S4x20x1024x128, .bf16⟩
  | .hbm, ⟨16, _⟩ => ⟨S4x20x1024x128, .bf16⟩
  | .hbm, ⟨17, _⟩ => ⟨S4x1024x20x128, .bf16⟩
  | .hbm, ⟨18, _⟩ => ⟨S4x1024x20x128, .bf16⟩
  | .hbm, ⟨19, _⟩ => ⟨S4x1024x20x128, .bf16⟩
  | .hbm, ⟨20, _⟩ => ⟨S4x1024x5120, .fp8e4m3⟩
  | .hbm, ⟨21, _⟩ => ⟨S4x1024x1, .f32⟩
  | .local _ .vmem, ⟨0, _⟩ => ⟨S128x5120, .bf16⟩
  | .local _ .vmem, ⟨1, _⟩ => ⟨S128x5120, .bf16⟩
  | .local _ .vmem, ⟨2, _⟩ => ⟨S1x5120, .bf16⟩
  | .local _ .vmem, ⟨3, _⟩ => ⟨S128x5120, .fp8e4m3⟩
  | .local _ .vmem, ⟨4, _⟩ => ⟨S128x5120, .fp8e4m3⟩
  | .local _ .vmem, ⟨5, _⟩ => ⟨S128x128, .f32⟩
  | .local _ .vmem, ⟨6, _⟩ => ⟨S128x128, .f32⟩
  | .local _ .vmem, ⟨7, _⟩ => ⟨S1x1x128, .f32⟩
  | .local _ .vmem, ⟨8, _⟩ => ⟨S1x1x128, .f32⟩
  | .local _ .vmem, ⟨9, _⟩ => ⟨S512x5120, .fp8e4m3⟩
  | .local _ .vmem, ⟨10, _⟩ => ⟨S512x5120, .fp8e4m3⟩
  | .local _ .vmem, ⟨11, _⟩ => ⟨S512x128, .f32⟩
  | .local _ .vmem, ⟨12, _⟩ => ⟨S512x128, .f32⟩
  | .local _ .vmem, ⟨13, _⟩ => ⟨S5120x1536, .fp8e4m3⟩
  | .local _ .vmem, ⟨14, _⟩ => ⟨S5120x1536, .fp8e4m3⟩
  | .local _ .vmem, ⟨15, _⟩ => ⟨S1x1536, .f32⟩
  | .local _ .vmem, ⟨16, _⟩ => ⟨S1x1536, .f32⟩
  | .local _ .vmem, ⟨17, _⟩ => ⟨S1x128, .bf16⟩
  | .local _ .vmem, ⟨18, _⟩ => ⟨S1x128, .bf16⟩
  | .local _ .vmem, ⟨19, _⟩ => ⟨S1x4x512x128, .bf16⟩
  | .local _ .vmem, ⟨20, _⟩ => ⟨S1x4x512x128, .bf16⟩
  | .local _ .vmem, ⟨21, _⟩ => ⟨S1x4x512x128, .bf16⟩
  | .local _ .vmem, ⟨22, _⟩ => ⟨S1x4x512x128, .bf16⟩
  | .local _ .vmem, ⟨23, _⟩ => ⟨S1x4x512x128, .bf16⟩
  | .local _ .vmem, ⟨24, _⟩ => ⟨S1x4x512x128, .bf16⟩
  | _, _ => ⟨S4x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem6_0 : DmaSem sig := 19
abbrev cc1_sem6_1 : DmaSem sig := 20
abbrev cc1_sem7_0 : DmaSem sig := 21
abbrev cc1_sem7_1 : DmaSem sig := 22
abbrev cc1_sem8_0 : DmaSem sig := 23
abbrev cc1_sem8_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x5120 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![5, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg0.toNat, v26.toNat, c0_i32_10.toNat]

def cc1_transform_7 (i : grid1.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg0.toNat, v26.toNat, c0_i32_10.toNat]

def cc1_transform_8 (i : grid1.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg0.toNat, v26.toNat, c0_i32_10.toNat]

abbrev stage1_0 : Fin 2 → Memref sig .tc .vmem S512x5120 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S5120x1536 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1536 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x4x512x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x4x512x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x4x512x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== ReferenceIdeal.lean ====
abbrev S4x1024x5120 : Shape := ⟨3, ![4, 1024, 5120]⟩
abbrev S5120 : Shape := ⟨1, ![5120]⟩
abbrev S5120x7680 : Shape := ⟨2, ![5120, 7680]⟩
abbrev S7680 : Shape := ⟨1, ![7680]⟩
abbrev S128 : Shape := ⟨1, ![128]⟩
abbrev S_ : Shape := ⟨0, ![]⟩
abbrev S4x1024 : Shape := ⟨2, ![4, 1024]⟩
abbrev S4x1024x1 : Shape := ⟨3, ![4, 1024, 1]⟩
abbrev S1x1x5120 : Shape := ⟨3, ![1, 1, 5120]⟩
abbrev S4096x5120 : Shape := ⟨2, ![4096, 5120]⟩
abbrev S4096x7680 : Shape := ⟨2, ![4096, 7680]⟩
abbrev S4x1024x7680 : Shape := ⟨3, ![4, 1024, 7680]⟩
abbrev S1x1x7680 : Shape := ⟨3, ![1, 1, 7680]⟩
abbrev S4x1024x20x3x128 : Shape := ⟨5, ![4, 1024, 20, 3, 128]⟩
abbrev S4x1024x20x1x128 : Shape := ⟨5, ![4, 1024, 20, 1, 128]⟩
abbrev S4x1024x20x128 : Shape := ⟨4, ![4, 1024, 20, 128]⟩
abbrev S4x1024x20 : Shape := ⟨3, ![4, 1024, 20]⟩
abbrev S4x1024x20x1 : Shape := ⟨4, ![4, 1024, 20, 1]⟩
abbrev S1x1x1x128 : Shape := ⟨4, ![1, 1, 1, 128]⟩

abbrev nBuf : Space → Nat
  | .hbm => 110
  | .vmem => 4
  | .smem => 0
  | _ => 0

abbrev bufTy : (tb : Table) → Fin (tcTables nBuf tb) → BufTy
  | .hbm, ⟨0, _⟩ => ⟨S4x1024x5120, .bf16⟩
  | .hbm, ⟨1, _⟩ => ⟨S5120, .bf16⟩
  | .hbm, ⟨2, _⟩ => ⟨S5120x7680, .fp8e4m3⟩
  | .hbm, ⟨3, _⟩ => ⟨S7680, .f32⟩
  | .hbm, ⟨4, _⟩ => ⟨S128, .bf16⟩
  | .hbm, ⟨5, _⟩ => ⟨S128, .bf16⟩
  | .hbm, ⟨6, _⟩ => ⟨S4x1024x5120, .f32⟩
  | .hbm, ⟨7, _⟩ => ⟨S4x1024x5120, .f32⟩
  | .hbm, ⟨8, _⟩ => ⟨S_, .f32⟩
  | .hbm, ⟨9, _⟩ => ⟨S4x1024, .f32⟩
  | .hbm, ⟨10, _⟩ => ⟨S4x1024x1, .f32⟩
  | .hbm, ⟨11, _⟩ => ⟨S_, .f32⟩
  | .hbm, ⟨12, _⟩ => ⟨S4x1024x1, .f32⟩
  | .hbm, ⟨13, _⟩ => ⟨S4x1024x1, .f32⟩
  | .hbm, ⟨14, _⟩ => ⟨S_, .f32⟩
  | .hbm, ⟨15, _⟩ => ⟨S4x1024x1, .f32⟩
  | .hbm, ⟨16, _⟩ => ⟨S4x1024x1, .f32⟩
  | .hbm, ⟨17, _⟩ => ⟨S4x1024x1, .f32⟩
  | .hbm, ⟨18, _⟩ => ⟨S4x1024x5120, .f32⟩
  | .hbm, ⟨19, _⟩ => ⟨S4x1024x5120, .f32⟩
  | .hbm, ⟨20, _⟩ => ⟨S5120, .f32⟩
  | .hbm, ⟨21, _⟩ => ⟨S1x1x5120, .f32⟩
  | .hbm, ⟨22, _⟩ => ⟨S4x1024x5120, .f32⟩
  | .hbm, ⟨23, _⟩ => ⟨S4x1024x5120, .f32⟩
  | .hbm, ⟨24, _⟩ => ⟨S4x1024x5120, .f32⟩
  | .hbm, ⟨25, _⟩ => ⟨S_, .f32⟩
  | .hbm, ⟨26, _⟩ => ⟨S4x1024, .f32⟩
  | .hbm, ⟨27, _⟩ => ⟨S4x1024x1, .f32⟩
  | .hbm, ⟨28, _⟩ => ⟨S_, .f32⟩
  | .hbm, ⟨29, _⟩ => ⟨S4x1024x1, .f32⟩
  | .hbm, ⟨30, _⟩ => ⟨S4x1024x1, .f32⟩
  | .hbm, ⟨31, _⟩ => ⟨S_, .f32⟩
  | .hbm, ⟨32, _⟩ => ⟨S4x1024x1, .f32⟩
  | .hbm, ⟨33, _⟩ => ⟨S4x1024x1, .i1⟩
  | .hbm, ⟨34, _⟩ => ⟨S4x1024x1, .f32⟩
  | .hbm, ⟨35, _⟩ => ⟨S_, .f32⟩
  | .hbm, ⟨36, _⟩ => ⟨S_, .f32⟩
  | .hbm, ⟨37, _⟩ => ⟨S4x1024x1, .f32⟩
  | .hbm, ⟨38, _⟩ => ⟨S4x1024x1, .f32⟩
  | .hbm, ⟨39, _⟩ => ⟨S4x1024x1, .f32⟩
  | .hbm, ⟨40, _⟩ => ⟨S_, .f32⟩
  | .hbm, ⟨41, _⟩ => ⟨S4x1024x1, .f32⟩
  | .hbm, ⟨42, _⟩ => ⟨S4x1024x1, .f32⟩
  | .hbm, ⟨43, _⟩ => ⟨S_, .f32⟩
  | .hbm, ⟨44, _⟩ => ⟨S_, .f32⟩
  | .hbm, ⟨45, _⟩ => ⟨S4x1024x1, .f32⟩
  | .hbm, ⟨46, _⟩ => ⟨S4x1024x1, .f32⟩
  | .hbm, ⟨47, _⟩ => ⟨S_, .f32⟩
  | .hbm, ⟨48, _⟩ => ⟨S4x1024x1, .f32⟩
  | .hbm, ⟨49, _⟩ => ⟨S4x1024x1, .f32⟩
  | .hbm, ⟨50, _⟩ => ⟨S4x1024x1, .f32⟩
  | .hbm, ⟨51, _⟩ => ⟨S_, .f32⟩
  | .hbm, ⟨52, _⟩ => ⟨S4x1024x1, .f32⟩
  | .hbm, ⟨53, _⟩ => ⟨S4x1024x1, .f32⟩
  | .hbm, ⟨54, _⟩ => ⟨S4x1024x5120, .f32⟩
  | .hbm, ⟨55, _⟩ => ⟨S4x1024x5120, .f32⟩
  | .hbm, ⟨56, _⟩ => ⟨S4096x5120, .f32⟩
  | .hbm, ⟨57, _⟩ => ⟨S4096x5120, .fp8e4m3⟩
  | .hbm, ⟨58, _⟩ => ⟨S4096x7680, .f32⟩
  | .hbm, ⟨59, _⟩ => ⟨S4x1024x7680, .f32⟩
  | .hbm, ⟨60, _⟩ => ⟨S4x1024x7680, .f32⟩
  | .hbm, ⟨61, _⟩ => ⟨S4x1024x7680, .f32⟩
  | .hbm, ⟨62, _⟩ => ⟨S1x1x7680, .f32⟩
  | .hbm, ⟨63, _⟩ => ⟨S4x1024x7680, .f32⟩
  | .hbm, ⟨64, _⟩ => ⟨S4x1024x7680, .f32⟩
  | .hbm, ⟨65, _⟩ => ⟨S4x1024x20x3x128, .f32⟩
  | .hbm, ⟨66, _⟩ => ⟨S4x1024x20x1x128, .f32⟩
  | .hbm, ⟨67, _⟩ => ⟨S4x1024x20x128, .f32⟩
  | .hbm, ⟨68, _⟩ => ⟨S4x1024x20x1x128, .f32⟩
  | .hbm, ⟨69, _⟩ => ⟨S4x1024x20x128, .f32⟩
  | .hbm, ⟨70, _⟩ => ⟨S4x1024x20x1x128, .f32⟩
  | .hbm, ⟨71, _⟩ => ⟨S4x1024x20x128, .f32⟩
  | .hbm, ⟨72, _⟩ => ⟨S4x1024x20x128, .f32⟩
  | .hbm, ⟨73, _⟩ => ⟨S_, .f32⟩
  | .hbm, ⟨74, _⟩ => ⟨S4x1024x20, .f32⟩
  | .hbm, ⟨75, _⟩ => ⟨S4x1024x20x1, .f32⟩
  | .hbm, ⟨76, _⟩ => ⟨S_, .f32⟩
  | .hbm, ⟨77, _⟩ => ⟨S4x1024x20x1, .f32⟩
  | .hbm, ⟨78, _⟩ => ⟨S4x1024x20x1, .f32⟩
  | .hbm, ⟨79, _⟩ => ⟨S_, .f32⟩
  | .hbm, ⟨80, _⟩ => ⟨S4x1024x20x1, .f32⟩
  | .hbm, ⟨81, _⟩ => ⟨S4x1024x20x1, .f32⟩
  | .hbm, ⟨82, _⟩ => ⟨S4x1024x20x1, .f32⟩
  | .hbm, ⟨83, _⟩ => ⟨S4x1024x20x128, .f32⟩
  | .hbm, ⟨84, _⟩ => ⟨S4x1024x20x128, .f32⟩
  | .hbm, ⟨85, _⟩ => ⟨S128, .f32⟩
  | .hbm, ⟨86, _⟩ => ⟨S1x1x1x128, .f32⟩
  | .hbm, ⟨87, _⟩ => ⟨S4x1024x20x128, .f32⟩
  | .hbm, ⟨88, _⟩ => ⟨S4x1024x20x128, .f32⟩
  | .hbm, ⟨89, _⟩ => ⟨S4x1024x20x128, .bf16⟩
  | .hbm, ⟨90, _⟩ => ⟨S4x1024x20x128, .f32⟩
  | .hbm, ⟨91, _⟩ => ⟨S_, .f32⟩
  | .hbm, ⟨92, _⟩ => ⟨S4x1024x20, .f32⟩
  | .hbm, ⟨93, _⟩ => ⟨S4x1024x20x1, .f32⟩
  | .hbm, ⟨94, _⟩ => ⟨S_, .f32⟩
  | .hbm, ⟨95, _⟩ => ⟨S4x1024x20x1, .f32⟩
  | .hbm, ⟨96, _⟩ => ⟨S4x1024x20x1, .f32⟩
  | .hbm, ⟨97, _⟩ => ⟨S_, .f32⟩
  | .hbm, ⟨98, _⟩ => ⟨S4x1024x20x1, .f32⟩
  | .hbm, ⟨99, _⟩ => ⟨S4x1024x20x1, .f32⟩
  | .hbm, ⟨100, _⟩ => ⟨S4x1024x20x1, .f32⟩
  | .hbm, ⟨101, _⟩ => ⟨S4x1024x20x128, .f32⟩
  | .hbm, ⟨102, _⟩ => ⟨S4x1024x20x128, .f32⟩
  | .hbm, ⟨103, _⟩ => ⟨S128, .f32⟩
  | .hbm, ⟨104, _⟩ => ⟨S1x1x1x128, .f32⟩
  | .hbm, ⟨105, _⟩ => ⟨S4x1024x20x128, .f32⟩
  | .hbm, ⟨106, _⟩ => ⟨S4x1024x20x128, .f32⟩
  | .hbm, ⟨107, _⟩ => ⟨S4x1024x20x128, .bf16⟩
  | .hbm, ⟨108, _⟩ => ⟨S4x1024x20x128, .bf16⟩
  | .hbm, ⟨109, _⟩ => ⟨S4x1024x5120, .fp8e4m3⟩
  | .local _ .vmem, ⟨0, _⟩ => ⟨S4096x5120, .f32⟩
  | .local _ .vmem, ⟨1, _⟩ => ⟨S5120x7680, .fp8e4m3⟩
  | .local _ .vmem, ⟨2, _⟩ => ⟨S4096x5120, .fp8e4m3⟩
  | .local _ .vmem, ⟨3, _⟩ => ⟨S4096x7680, .f32⟩
  | _, _ => ⟨S4x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_call0_v0 : Ref sig .tc := ⟨.hbm, 44, rfl⟩
abbrev main_call0_v1 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38_0 : Ref sig .tc := ⟨.hbm, 57, rfl⟩
abbrev main_v38_1 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_13 : Ref sig .tc := ⟨.hbm, 91, rfl⟩
abbrev main_v68 : Ref sig .tc := ⟨.hbm, 92, rfl⟩
abbrev main_v69 : Ref sig .tc := ⟨.hbm, 93, rfl⟩
abbrev main_cst_14 : Ref sig .tc := ⟨.hbm, 94, rfl⟩
abbrev main_v70 : Ref sig .tc := ⟨.hbm, 95, rfl⟩
abbrev main_v71 : Ref sig .tc := ⟨.hbm, 96, rfl⟩
abbrev main_cst_15 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4096x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x7680 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x7680 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelRun.lean ====
/- The idealized kernel's run with its five result arrays named: each ends at what the fold of the segments' buffer
   contents (`Gen.W5`) holds there, and the arguments end as launched. The launch is the generated frame's, read at more
   buffers. -/
module

public import proofs.«01_k».proof.Proof.Gen.KernelIdeal.Frame

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: each result array ends at the last boundary's contents, each argument as launched. -/
theorem run : θ_run defs (onTc (τ := τ) (main (F := F))) ⟨m, fun _ => 0, ρ⟩ (fun r => ∀ c : Dev nD,
      r.2.mem ((c.tc : Thread nD τ).loc main_v7) = W5 m ρ c (Proc.devRef .tc main_v7)
      ∧ r.2.mem ((c.tc : Thread nD τ).loc main_v8) = W5 m ρ c (Proc.devRef .tc main_v8)
      ∧ r.2.mem ((c.tc : Thread nD τ).loc main_v9) = W5 m ρ c (Proc.devRef .tc main_v9)
      ∧ r.2.mem ((c.tc : Thread nD τ).loc main_v10) = W5 m ρ c (Proc.devRef .tc main_v10)
      ∧ r.2.mem ((c.tc : Thread nD τ).loc main_v11) = W5 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v7 (by decide)),
       h c _ (mem_uc main_v8 (by decide)),
       h c _ (mem_uc main_v9 (by decide)),
       h c _ (mem_uc main_v10 (by decide)),
       h c _ (mem_uc main_v11 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Val

end
-- ==== Proof.Boundaries.lean ====
/- The idealized kernel's buffers at the segment boundaries: what each region finds in the arrays it reads, and what the
   five results hold, in terms of the two regions' final arrays and the arguments. -/
module

public import proofs.«01_k».proof.Proof.KernelRun
public import Idealize.ShloMosaic.Lib.StableHlo.Run

@[expose] public section

set_option maxRecDepth 16384

noncomputable section

namespace Cert.KernelIdeal.Val

open Cert.KernelIdeal Cert.KernelIdeal.Gen Idealize.ShloMosaic Idealize.ShloMosaic.TcCoe Idealize.SL.Sem
  Idealize.ShloMosaic.StableHlo

variable {F : FTy → Type} [FloatOps F]
variable (m : (ℓ : Loc nD τ sig) → Buf (Elt F) ℓ) (ρ : Dev nD → PrngReg) (c : Dev nD)

/-- The quantised tokens the first region leaves. -/
def codesArr : FVec F S4096x5120 .fp8e4m3 := (dat0 (V1 m ρ) c).arrAt 2 cfg0.N
/-- The scales, each repeated over the lanes, the first region leaves. -/
def repArr : FVec F S4096x128 .f32 := (dat0 (V1 m ρ) c).arrAt 3 cfg0.N
/-- The scales, 128 tokens a row, the first region leaves. -/
def scaleArr : FVec F S32x1x128 .f32 := (dat0 (V1 m ρ) c).arrAt 4 cfg0.N
/-- The q heads the second region leaves. -/
def qArr : FVec F S4x20x1024x128 .bf16 := (dat1 (V3 m ρ) c).arrAt 6 cfg1.N
/-- The k heads the second region leaves. -/
def kArr : FVec F S4x20x1024x128 .bf16 := (dat1 (V3 m ρ) c).arrAt 7 cfg1.N
/-- The v heads the second region leaves. -/
def vArr : FVec F S4x20x1024x128 .bf16 := (dat1 (V3 m ρ) c).arrAt 8 cfg1.N

/-- The first region finds the tokens as rows. -/
theorem V1_v0 : V1 m ρ c main_v0 = shapeCast S4096x5120 (m ((c.tc : Thread nD τ).loc main_arg0)) shapeCasts_S4x1024x5120_S4096x5120 := by
  show after hostOps0 (W0 m ρ c) (Proc.devRef .tc main_v0) = _
  after_results_simp <;> rfl
/-- The first region finds the gains as one row. -/
theorem V1_v1 : V1 m ρ c main_v1 = shapeCast S1x5120 (m ((c.tc : Thread nD τ).loc main_arg1)) shapeCasts_S5120_S1x5120 := by
  show after hostOps0 (W0 m ρ c) (Proc.devRef .tc main_v1) = _
  after_results_simp <;> rfl

/-- The first region's arrays at the boundary after it. -/
theorem W2_codes : W2 m ρ c (Proc.devRef .tc main_v2_0) = codesArr m ρ c := W2_arr m ρ c 2
theorem W2_rep : W2 m ρ c (Proc.devRef .tc main_v2_1) = repArr m ρ c := W2_arr m ρ c 3
theorem W2_scale : W2 m ρ c (Proc.devRef .tc main_v2_2) = scaleArr m ρ c := W2_arr m ρ c 4

/-- The second region finds the quantised tokens, their scales, and the arguments. -/
theorem V3_codes : V3 m ρ c main_v2_0 = codesArr m ρ c := (W3_of m ρ c main_v2_0 (by decide)).trans (W2_codes m ρ c)
theorem V3_rep : V3 m ρ c main_v2_1 = repArr m ρ c := (W3_of m ρ c main_v2_1 (by decide)).trans (W2_rep m ρ c)
theorem V3_w : V3 m ρ c main_arg2 = m ((c.tc : Thread nD τ).loc main_arg2) := W3_args m ρ c main_arg2 (by decide)
theorem V3_v3 : V3 m ρ c main_v3 = shapeCast S1x7680 (m ((c.tc : Thread nD τ).loc main_arg3)) shapeCasts_S7680_S1x7680 := by
  rw [← W2_args m ρ c main_arg3 (by decide)]
  show after hostOps1 (W2 m ρ c) (Proc.devRef .tc main_v3) = _
  after_results_simp <;> rfl
theorem V3_v4 : V3 m ρ c main_v4 = shapeCast S1x128 (m ((c.tc : Thread nD τ).loc main_arg4)) shapeCasts_S128_S1x128 := by
  rw [← W2_args m ρ c main_arg4 (by decide)]
  show after hostOps1 (W2 m ρ c) (Proc.devRef .tc main_v4) = _
  after_results_simp <;> rfl
theorem V3_v5 : V3 m ρ c main_v5 = shapeCast S1x128 (m ((c.tc : Thread nD τ).loc main_arg5)) shapeCasts_S128_S1x128 := by
  rw [← W2_args m ρ c main_arg5 (by decide)]
  show after hostOps1 (W2 m ρ c) (Proc.devRef .tc main_v5) = _
  after_results_simp <;> rfl

/-- The second region's arrays at the boundary after it; the first region's are still there. -/
theorem W4_q : W4 m ρ c (Proc.devRef .tc main_v6_0) = qArr m ρ c := W4_arr m ρ c 6
theorem W4_k : W4 m ρ c (Proc.devRef .tc main_v6_1) = kArr m ρ c := W4_arr m ρ c 7
theorem W4_v : W4 m ρ c (Proc.devRef .tc main_v6_2) = vArr m ρ c := W4_arr m ρ c 8
theorem W4_codes : W4 m ρ c (Proc.devRef .tc main_v2_0) = codesArr m ρ c :=
  (W4_of m ρ c main_v2_0 (by decide)).trans (V3_codes m ρ c)
theorem W4_scale : W4 m ρ c (Proc.devRef .tc main_v2_2) = scaleArr m ρ c :=
  (W4_of m ρ c main_v2_2 (by decide)).trans ((W3_of m ρ c main_v2_2 (by decide)).trans (W2_scale m ρ c))

/-- The five results: the heads with their axes exchanged, the quantised tokens and the scales reshaped. -/
theorem W5_v7 : W5 m ρ c (Proc.devRef .tc main_v7)
    = transpose S4x1024x20x128 [0, 2, 1, 3] (qArr m ρ c) transposes_S4x20x1024x128_S4x1024x20x128_0_2_1_3 := by
  rw [← W4_q]; show after hostOps2 (W4 m ρ c) (Proc.devRef .tc main_v7) = _
  after_results_simp <;> rfl
theorem W5_v8 : W5 m ρ c (Proc.devRef .tc main_v8)
    = transpose S4x1024x20x128 [0, 2, 1, 3] (kArr m ρ c) transposes_S4x20x1024x128_S4x1024x20x128_0_2_1_3 := by
  rw [← W4_k]; show after hostOps2 (W4 m ρ c) (Proc.devRef .tc main_v8) = _
  after_results_simp <;> rfl
theorem W5_v9 : W5 m ρ c (Proc.devRef .tc main_v9)
    = transpose S4x1024x20x128 [0, 2, 1, 3] (vArr m ρ c) transposes_S4x20x1024x128_S4x1024x20x128_0_2_1_3 := by
  rw [← W4_v]; show after hostOps2 (W4 m ρ c) (Proc.devRef .tc main_v9) = _
  after_results_simp <;> rfl
theorem W5_v10 : W5 m ρ c (Proc.devRef .tc main_v10)
    = shapeCast S4x1024x5120 (codesArr m ρ c) shapeCasts_S4096x5120_S4x1024x5120 := by
  rw [← W4_codes]; show after hostOps2 (W4 m ρ c) (Proc.devRef .tc main_v10) = _
  after_results_simp <;> rfl
theorem W5_v11 : W5 m ρ c (Proc.devRef .tc main_v11)
    = shapeCast S4x1024x1 (scaleArr m ρ c) shapeCasts_S32x1x128_S4x1024x1 := by
  rw [← W4_scale]; show after hostOps2 (W4 m ρ c) (Proc.devRef .tc main_v11) = _
  after_results_simp <;> rfl

end Cert.KernelIdeal.Val

end
-- ==== Proof.Spec.lean ====
/- The mathematics of one token, over the extended reals: its normalised row, the number its scale is taken from, its
   quantised row, its projections and its normalised heads. The scale and its inverse enter as functions of that number,
   since the kernel and the reference compute them in different ways (Proof/Scale.lean shows that the two agree). -/
module

public import Idealize.ShloMosaic.Lib.Pointwise

@[expose] public section

noncomputable section

namespace Cert.Spec

open Idealize.ShloMosaic

/-- The constants both programs carry, by their bits. -/
abbrev eps : EReal := Ideal.ofBits .f32 0x358637BD#32
abbrev c5120 : EReal := Ideal.ofBits .f32 0x45A00000#32
abbrev c128 : EReal := Ideal.ofBits .f32 0x43000000#32
abbrev inv448 : EReal := Ideal.ofBits .f32 0x3B124925#32
abbrev lo : EReal := Ideal.ofBits .f32 0xC3E00000#32
abbrev hi : EReal := Ideal.ofBits .f32 0x43E00000#32
abbrev two : EReal := Ideal.ofBits .f32 0x40000000#32
abbrev one : EReal := Ideal.ofBits .f32 0x3F800000#32
abbrev tiny : EReal := Ideal.ofBits .f32 0x00800000#32
abbrev negInf : EReal := Ideal.ofBits .f32 0xFF800000#32
abbrev bf16Max : EReal := Ideal.ofBits .f32 0x7F7F0000#32

/-- An element of a token's normalised row. -/
def norm (X G : Fin 5120 → EReal) (j : Fin 5120) : EReal :=
  X j * Ideal.rsqrt (Ideal.div (∑ k, X k * X k) c5120 + eps) * G j

/-- The number a token's scale is taken from: the greatest magnitude in its normalised row, over 448. -/
def rowM (X G : Fin 5120 → EReal) : EReal :=
  ((Finset.univ : Finset (Fin 5120)).fold max negInf fun j => max (norm X G j) (-(norm X G j))) * inv448

/-- An element of a token's quantised row. -/
def code (inv : EReal → EReal) (X G : Fin 5120 → EReal) (j : Fin 5120) : EReal :=
  min hi (max lo (norm X G j * inv (rowM X G)))

/-- An element of a token's projections, rescaled by its own scale and its column's. -/
def proj (sc inv : EReal → EReal) (X G : Fin 5120 → EReal) (W : Fin 5120 → Fin 7680 → EReal) (S : Fin 7680 → EReal)
    (n : Fin 7680) : EReal :=
  (∑ k, code inv X G k * W k n) * sc (rowM X G) * S n

/-- The column of lane `d` of part `a` (q, k, v) of head `h`. -/
def col (h : Fin 20) (a : Fin 3) (d : Fin 128) : Fin 7680 := ⟨h.val * 384 + a.val * 128 + d.val, by omega⟩

/-- An element of a normalised head. -/
def head (P G : Fin 128 → EReal) (d : Fin 128) : EReal :=
  P d * Ideal.rsqrt (Ideal.div (∑ k, P k * P k) c128 + eps) * G d

/-! ## The kernel's scale: the exponent field by a binary search -/

/-- One step of the search: the bit `b` joins the field `f` if the float of that exponent field is not above `m`. -/
def step (m : EReal) (f b : BitVec 32) : BitVec 32 := if Ideal.ofBits .f32 ((f + b) <<< 23) ≤ m then f + b else f

/-- The exponent field the search finds, from its top bit down. -/
def field (m : EReal) : BitVec 32 :=
  step m (step m (step m (step m (step m (step m (step m (step m 0#32 128#32) 64#32) 32#32) 16#32) 8#32) 4#32) 2#32) 1#32

/-- The exponent: the field less 126, and zero for the least and the greatest field. -/
def kExp (m : EReal) : BitVec 32 := if field m = 0#32 ∨ field m = 255#32 then 0#32 else field m - 126#32

/-- The kernel's scale and its inverse, built from the exponent as floats. -/
def kScale (m : EReal) : EReal := Ideal.ofBits .f32 ((127#32 + kExp m) <<< 23)
def kInv (m : EReal) : EReal := Ideal.ofBits .f32 ((127#32 - kExp m) <<< 23)

/-! ## The reference's scale: the exponent by the logarithm -/

/-- The exponent: the floor of the base-two logarithm, plus one, and zero below the normal floats. -/
def rExp (m : EReal) : EReal :=
  if m < tiny then Ideal.ofBits .f32 0x00000000#32
  else Ideal.liftRound Int.floor (Ideal.div (Ideal.log m) (Ideal.log two)) + one

/-- The reference's scale and its inverse. -/
def rScale (m : EReal) : EReal := Ideal.pow two (rExp m)
def rInv (m : EReal) : EReal := Ideal.pow two (-(rExp m))

end Cert.Spec

end
-- ==== Proof.Quant.lean ====
/- The kernel's first region: what its three arrays hold after the last grid point, in the terms of Proof/Spec.lean. -/
module

public import proofs.«01_k».proof.Proof.Boundaries
public import proofs.«01_k».proof.Proof.Spec
public import Idealize.ShloMosaic.Lib.Pipeline.ValueKit
public import Idealize.ShloMosaic.Lib.Pointwise

@[expose] public section

set_option maxRecDepth 16384
set_option maxHeartbeats 2000000

noncomputable section

namespace Cert.KernelIdeal.Val

open Cert.KernelIdeal Cert.KernelIdeal.Gen Idealize.ShloMosaic Idealize.ShloMosaic.TcCoe Idealize.SL.Sem Cert.Spec

/-! ## The body's values at an index -/

/-- The normalised rows. -/
theorem pay4_at (v0 : Vec Ideal S128x5120 .bf16) (v13 : Vec Ideal S1x5120 .bf16) (r : Fin 128) (j : Fin 5120) :
    k0_pay4 (F := Ideal) v0 v13 (ix2 r j) = Spec.norm (fun k => v0 (ix2 r k)) (fun k => v13 (ix2 0 k)) j := by
  unfold Spec.norm
  pointwise [k0_pay4]

/-- The number each token's scale is taken from. -/
theorem pay5_at (v0 : Vec Ideal S128x5120 .bf16) (v13 : Vec Ideal S1x5120 .bf16) (r : Fin 128) :
    k0_pay5 (F := Ideal) v0 v13 (ix2 r 0) = rowM (fun k => v0 (ix2 r k)) (fun k => v13 (ix2 0 k)) := by
  unfold rowM Spec.norm
  pointwise [k0_pay5, k0_pay4]
  rfl

/-- One step of the search, over a whole column of tokens. -/
def vstep (M : FVec Ideal S128x1 .f32) (f : IVec S128x1 32) (b : BitVec 32) : IVec S128x1 32 :=
  select (cmpf .oge M (bitcastToFloat (F := Ideal) .f32 (shli (addi f (broadcast S128x1 b)) (broadcast S128x1 23#32))))
    (addi f (broadcast S128x1 b)) f

theorem vstep_at (M : FVec Ideal S128x1 .f32) (f : IVec S128x1 32) (b : BitVec 32) (j : S128x1.Idx) :
    vstep M f b j = step (M j) (f j) b := by
  show Scalar.select (Ideal.cmp .oge (M j) (Ideal.ofBits .f32 (IntOp.shli .vector (f j + b) 23#32))) (f j + b) (f j) = _
  have : IntOp.shli .vector (f j + b) 23#32 = (f j + b) <<< 23 := rfl
  rw [this]
  unfold step Scalar.select Ideal.cmp
  generalize Ideal.ofBits .f32 ((f j + b) <<< 23) = t
  by_cases h : t ≤ M j <;> simp [h]

/-- The field from its third bit down, and the exponent read from it. -/
def vexp (M : FVec Ideal S128x1 .f32) (f : IVec S128x1 32) : IVec S128x1 32 :=
  select (ori (cmpi .eq f (broadcast S128x1 0#32)) (cmpi .eq f (broadcast S128x1 255#32))) (broadcast S128x1 0#32)
    (subi f (broadcast S128x1 126#32))

theorem vexp_at (M : FVec Ideal S128x1 .f32) (f : IVec S128x1 32) (j : S128x1.Idx) :
    vexp M f j = if f j = 0#32 ∨ f j = 255#32 then 0#32 else f j - 126#32 := by
  show Scalar.select (BitVec.ofBool (f j == 0#32) ||| BitVec.ofBool (f j == 255#32)) 0#32 (f j - 126#32) = _
  unfold Scalar.select
  by_cases h : f j = 0#32
  · simp [h]
  · by_cases h' : f j = 255#32
    · simp [h']
    · have h1 : (f j == 0#32) = false := by simpa using h
      have h2 : (f j == 255#32) = false := by simpa using h'
      rw [h1, h2, if_neg (by decide), if_neg (by simp [h, h'])]

theorem pay6_vec (v0 : Vec Ideal S128x5120 .bf16) (v13 : Vec Ideal S1x5120 .bf16) :
    k0_pay6 (F := Ideal) v0 v13
      = vstep (k0_pay5 v0 v13) (vstep (k0_pay5 v0 v13) (broadcast S128x1 0#32) 128#32) 64#32 := rfl

theorem pay9_vec (M : FVec Ideal S128x1 .f32) (f : IVec S128x1 32) :
    k0_pay9 (F := Ideal) M f (addi f (broadcast S128x1 32#32))
      (bitcastToFloat (F := Ideal) .f32 (shli (addi f (broadcast S128x1 32#32)) (broadcast S128x1 23#32)))
      = vexp M (vstep M (vstep M (vstep M (vstep M (vstep M (vstep M f 32#32) 16#32) 8#32) 4#32) 2#32) 1#32) := rfl

/-- The exponent the body finds for each token. -/
theorem exp_at (v0 : Vec Ideal S128x5120 .bf16) (v13 : Vec Ideal S1x5120 .bf16) (r : Fin 128) :
    k0_pay9 (F := Ideal) (k0_pay5 v0 v13) (k0_pay6 v0 v13) (k0_pay7 v0 v13) (k0_pay8 v0 v13) (ix2 r 0)
      = kExp (rowM (fun k => v0 (ix2 r k)) (fun k => v13 (ix2 0 k))) := by
  rw [← pay5_at]
  refine (congrFun (pay9_vec (k0_pay5 v0 v13) (k0_pay6 v0 v13)) _).trans ?_
  rw [vexp_at]
  unfold kExp field
  simp only [vstep_at, pay6_vec]
  rfl

/-- The quantised rows, from the normalised rows and the exponents. -/
theorem pay1_at (h : FVec Ideal S128x5120 .f32) (e : IVec S128x1 32) (r : Fin 128) (j : Fin 5120) :
    k0_pay1 (F := Ideal) h e (ix2 r j) = min hi (max lo (h (ix2 r j) * Ideal.ofBits .f32 ((127#32 - e (ix2 r 0)) <<< 23))) := by
  pointwise [k0_pay1]
  rfl

/-- The repeated scales. -/
theorem pay2_at (e : IVec S128x1 32) (r l : Fin 128) :
    k0_pay2 (F := Ideal) e (ix2 r l) = Ideal.ofBits .f32 ((127#32 + e (ix2 r 0)) <<< 23) := by
  pointwise [k0_pay2]
  rfl

/-- The scales laid along the lanes: the sum down each column of the diagonal. -/
theorem pay3_at (e : IVec S128x1 32) (a b : Fin 1) (l : Fin 128) :
    k0_pay3 (F := Ideal) e (ix3 a b l) = Ideal.ofBits .f32 ((127#32 + e (ix2 l 0)) <<< 23) := by
  rw [← pay2_at e l l]
  generalize hg : k0_pay2 (F := Ideal) e = g
  pointwise [k0_pay3, hg]
  have hx : ∀ x : Fin 128, Scalar.select (IntOp.cmpi CmpIPredicate.eq (BitVec.ofNat 32 x.val) (BitVec.ofNat 32 l.val)) (g (ix2 x l)) 0
      = if x = l then g (ix2 x l) else 0 := fun x => by
    show (if BitVec.ofBool (BitVec.ofNat 32 x.val == BitVec.ofNat 32 l.val) = 1 then _ else _) = _
    by_cases h : x = l
    · subst h; simp
    · have hn : (BitVec.ofNat 32 x.val == BitVec.ofNat 32 l.val) = false := by
        simp only [beq_eq_false_iff_ne, ne_eq]
        intro e
        have := congrArg BitVec.toNat e
        simp only [BitVec.toNat_ofNat] at this
        exact h (Fin.ext (by omega))
      rw [hn, if_neg h, if_neg (by decide)]
  simp only [hx]
  simp

end Cert.KernelIdeal.Val

end
-- ==== Proof.QuantArr.lean ====
/- The kernel's first region: its three arrays after the last grid point, a token's row at a time. -/
module

public import proofs.«01_k».proof.Proof.Quant

@[expose] public section

set_option maxRecDepth 16384
set_option maxHeartbeats 2000000

noncomputable section

namespace Cert.KernelIdeal.Val

open Cert.KernelIdeal Cert.KernelIdeal.Gen Idealize.ShloMosaic Idealize.ShloMosaic.TcCoe Idealize.SL.Sem Cert.Spec

/-- Which block each window reads or writes at a grid point: the 128 rows of that point, and the whole row of gains. -/
theorem idx0 : ∀ t : Fin cfg0.N, win0_0.index t = ![t.val, 0] ∧ win0_1.index t = ![0, 0] ∧ win0_2.index t = ![t.val, 0]
    ∧ win0_3.index t = ![t.val, 0] ∧ win0_4.index t = ![t.val, 0, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![t.val, 0, 0])

/-- The exponent of each of a block's tokens. -/
theorem pay10_at (x0 : Vec Ideal S128x5120 .bf16) (x1 : Vec Ideal S1x5120 .bf16) (r : Fin 128) :
    k0_pay10 (F := Ideal) x0 x1 (ix2 r 0) = kExp (rowM (fun k => x0 (ix2 r k)) (fun k => x1 (ix2 0 k))) := by
  have h0 : View.ld x0 r0_0 = x0 := View.ld_unit_zero (by funext a; fin_cases a <;> rfl) _ _
  have h1 : View.ld x1 r0_1 = x1 := View.ld_unit_zero (by funext a; fin_cases a <;> rfl) _ _
  unfold k0_pay10
  rw [h0, h1]
  exact exp_at x0 x1 r

/-- What the body leaves of a block: the quantised rows, and the scales in their two layouts. -/
theorem codes_blk (x0 : Vec Ideal S128x5120 .bf16) (x1 : Vec Ideal S1x5120 .bf16) (y : S128x5120.Idx) :
    k0_pay1 (F := Ideal) (k0_pay4 x0 x1) (k0_pay10 x0 x1) y
      = code kInv (fun k => x0 (ix2 (y 0) k)) (fun k => x1 (ix2 0 k)) (y 1) := by
  obtain ⟨r, j, rfl⟩ : ∃ (r : Fin 128) (j : Fin 5120), y = ix2 r j := ⟨y 0, y 1, eq_ix2 y⟩
  refine (pay1_at _ _ r j).trans ?_
  rw [pay4_at, pay10_at]
  rfl

theorem rep_blk (x0 : Vec Ideal S128x5120 .bf16) (x1 : Vec Ideal S1x5120 .bf16) (y : S128x128.Idx) :
    k0_pay2 (F := Ideal) (k0_pay10 x0 x1) y
      = kScale (rowM (fun k => x0 (ix2 (y 0) k)) (fun k => x1 (ix2 0 k))) := by
  obtain ⟨r, l, rfl⟩ : ∃ (r : Fin 128) (l : Fin 128), y = ix2 r l := ⟨y 0, y 1, eq_ix2 y⟩
  refine (pay2_at _ r l).trans ?_
  rw [pay10_at]
  rfl

theorem scale_blk (x0 : Vec Ideal S128x5120 .bf16) (x1 : Vec Ideal S1x5120 .bf16) (y : S1x1x128.Idx) :
    k0_pay3 (F := Ideal) (k0_pay10 x0 x1) y
      = kScale (rowM (fun k => x0 (ix2 (y 2) k)) (fun k => x1 (ix2 0 k))) := by
  obtain ⟨a, b, l, rfl⟩ : ∃ (a : Fin 1) (b : Fin 1) (l : Fin 128), y = ix3 a b l := ⟨y 0, y 1, y 2, eq_ix3 y⟩
  refine (pay3_at _ a b l).trans ?_
  rw [pay10_at]
  rfl

variable (V : (c : Dev nD) → (b : Ref sig .tc) → Buf (Elt Ideal) ((c : Thread nD τ).loc b)) (c : Dev nD)

/-- A token's row, and the gains, as the first region finds them. -/
def rowV (r : Fin 4096) (k : Fin 5120) : EReal := (show FVec Ideal S4096x5120 .bf16 from V c main_v0) (ix2 r k)
def gainV (k : Fin 5120) : EReal := (show FVec Ideal S1x5120 .bf16 from V c main_v1) (ix2 0 k)

/-- A row of a block is the token's row. -/
theorem blk_row (t : Fin cfg0.N) (r : Fin 128) (q : Fin 4096) (hq : q.val = t.val * 128 + r.val) :
    (fun k => (show FVec Ideal S128x5120 .bf16 from iblk0 V c 0 t) (ix2 r k)) = rowV V c q := by
  funext k
  unfold rowV
  blk_point [iblk0, idx0 t]

theorem blk_gain (t : Fin cfg0.N) : (fun k => (show FVec Ideal S1x5120 .bf16 from iblk0 V c 1 t) (ix2 0 k)) = gainV V c := by
  funext k
  unfold gainV
  blk_point [iblk0, idx0 t]

/-- The quantised tokens. -/
theorem codes_final : (dat0 V c).arrAt 2 cfg0.N
    = fun i : S4096x5120.Idx => code kInv (rowV V c (i 0)) (gainV V c) (i 1) := by
  refine (dat0 V c).arrAt_eq_of_covers 2 _ (by decide +kernel) fun t hf y => ?_
  blk_simp
  rw [after0_2]
  frame_out
  refine (codes_blk (iblk0 V c 0 t) (iblk0 V c 1 t) y).trans ?_
  rw [blk_row V c t (y 0) _ ?_, blk_gain V c t]
  · congr 1
    refine Fin.ext ?_
    blk_simp [idx0 t]
  · blk_simp [idx0 t]

/-- The scales, repeated over the lanes. -/
theorem rep_final : (dat0 V c).arrAt 3 cfg0.N
    = fun i : S4096x128.Idx => kScale (rowM (rowV V c (i 0)) (gainV V c)) := by
  refine (dat0 V c).arrAt_eq_of_covers 3 _ (by decide +kernel) fun t hf y => ?_
  blk_simp
  rw [after0_3]
  frame_out
  refine (rep_blk (iblk0 V c 0 t) (iblk0 V c 1 t) y).trans ?_
  refine congrArg₂ (fun R G => kScale (rowM R G)) (blk_row V c t (y 0) _ ?_) (blk_gain V c t)
  blk_simp [idx0 t]

/-- The token of block `a`, lane `l`. -/
def tok (a : Fin 32) (l : Fin 128) : Fin 4096 := ⟨a.val * 128 + l.val, by omega⟩

/-- The scales, a block of tokens a row. -/
theorem scale_final : (dat0 V c).arrAt 4 cfg0.N
    = fun i : S32x1x128.Idx => kScale (rowM (rowV V c (tok (i 0) (i 2))) (gainV V c)) := by
  refine (dat0 V c).arrAt_eq_of_covers 4 _ (by decide +kernel) fun t hf y => ?_
  blk_simp
  rw [after0_4]
  frame_out
  refine (scale_blk (iblk0 V c 0 t) (iblk0 V c 1 t) y).trans ?_
  refine congrArg₂ (fun R G => kScale (rowM R G)) (blk_row V c t (y 2) _ ?_) (blk_gain V c t)
  unfold tok
  blk_simp [idx0 t]

end Cert.KernelIdeal.Val

end
-- ==== Proof.Proj.lean ====
/- The kernel's second region: what its body leaves of a block, in the terms of Proof/Spec.lean. The body does the same for
   each of four heads and each of q, k and v, at its own columns of the block: that is stated once, over the column. -/
module

public import proofs.«01_k».proof.Proof.Boundaries
public import proofs.«01_k».proof.Proof.Spec
public import Idealize.ShloMosaic.Lib.Pipeline.ValueKit
public import Idealize.ShloMosaic.Lib.Pointwise

@[expose] public section

set_option maxRecDepth 16384
set_option maxHeartbeats 2000000

noncomputable section

namespace Cert.KernelIdeal.Val

open Cert.KernelIdeal Cert.KernelIdeal.Gen Idealize.ShloMosaic Idealize.ShloMosaic.TcCoe Idealize.SL.Sem Cert.Spec

/-- 128 columns of the product, each row times its token's scale and each column times its own. -/
def vproj (o : Nat) (h : S512x1536.Slices ![0, o] S512x128) (M : FVec Ideal S512x1536 .f32) (B : FVec Ideal S512x128 .f32)
    (S : Vec Ideal S1x128 .f32) : FVec Ideal S512x128 .f32 :=
  mulf (mulf (extractStridedSlice S512x128 ![0, o] M h) B)
    (broadcastTo S512x128 (shapeCast S1x128 S shapeCasts_S1x128_S1x128) broadcasts_S1x128_S512x128)

/-- A head normalised, times its gains. -/
def vhead (P : FVec Ideal S512x128 .f32) (G : Vec Ideal S1x128 .bf16) : FVec Ideal S512x128 .bf16 :=
  truncf .bf16 (mulf (mulf P (broadcastTo S512x128 (rsqrt (addf (divf
      (shapeCast S512x1 (multiReduction .add [1] S512 (mulf P P) 0x00000000#32 reduces_S512x128_S512 (.inl rfl) rfl) shapeCasts_S512_S512x1)
      (broadcast S512x1 (Scalar.ofBits .f32 0x43000000#32))) (broadcast S512x1 (Scalar.ofBits .f32 0x358637BD#32)))) broadcasts_S512x1_S512x128))
    (broadcastTo S512x128 (extf .f32 (shapeCast S1x128 G shapeCasts_S1x128_S1x128) bitsLt_bf16_f32) broadcasts_S1x128_S512x128)) bitsLt_bf16_f32

/-- A head laid as the block of the result it is stored in. -/
def vpack (P : FVec Ideal S512x128 .bf16) : FVec Ideal S1x1x512x128 .bf16 :=
  shapeCast S1x1x512x128 P shapeCasts_S512x128_S1x1x512x128

theorem vpack_at (P : FVec Ideal S512x128 .bf16) (x : S1x1x512x128.Idx) : vpack P x = P (ix2 (x 2) (x 3)) := by
  obtain ⟨a, b, r, d, rfl⟩ : ∃ (a : Fin 1) (b : Fin 1) (r : Fin 512) (d : Fin 128), x = ix4 a b r d := ⟨x 0, x 1, x 2, x 3, eq_ix4 x⟩
  pointwise [vpack]

theorem vhead_at (P : FVec Ideal S512x128 .f32) (G : Vec Ideal S1x128 .bf16) (r : Fin 512) (d : Fin 128) :
    vhead P G (ix2 r d) = head (fun k => P (ix2 r k)) (fun k => G (ix2 0 k)) d := by
  unfold head
  pointwise [vhead]

/-- The column, in the block, of lane `d` of part `a` of the block's head `h`. -/
def bcol (h : Fin 4) (a : Fin 3) (d : Fin 128) : Fin 1536 := ⟨h.val * 384 + a.val * 128 + d.val, by omega⟩

/-- An element of the block's projections. -/
def bproj (x0 : Vec Ideal S512x5120 .fp8e4m3) (x1 : Vec Ideal S512x128 .f32) (x2 : Vec Ideal S5120x1536 .fp8e4m3)
    (x3 : Vec Ideal S1x1536 .f32) (h : Fin 4) (a : Fin 3) (r : Fin 512) (d : Fin 128) : EReal :=
  (∑ k : Fin 5120, x0 (ix2 r k) * x2 (ix2 k (bcol h a d))) * x1 (ix2 r d) * x3 (ix2 0 (bcol h a d))

variable (x0 : Vec Ideal S512x5120 .fp8e4m3) (x1 : Vec Ideal S512x128 .f32) (x2 : Vec Ideal S5120x1536 .fp8e4m3)
  (x3 : Vec Ideal S1x1536 .f32) (x4 : Vec Ideal S1x128 .bf16) (x5 : Vec Ideal S1x128 .bf16)

theorem vproj_at (o : Nat) (hs : S512x1536.Slices ![0, o] S512x128) (S : Vec Ideal S1x128 .f32) (h : Fin 4) (a : Fin 3)
    (ho : o = h.val * 384 + a.val * 128) (hS : ∀ d, S (ix2 0 d) = x3 (ix2 0 (bcol h a d))) (r : Fin 512) (d : Fin 128) :
    vproj o hs (k1_pay3 x0 x2) (k1_pay4 x1) S (ix2 r d) = bproj x0 x1 x2 x3 h a r d := by
  unfold bproj
  rw [← hS]
  pointwise [vproj, k1_pay3, k1_pay4]
  subst ho
  rfl

/-- A load of 128 lanes of the row of column scales. -/
theorem ld_at (o : Nat) (inb : ∀ a, (![0, o] : Fin 2 → Nat) a + S1x128.size a ≤ S1x1536.size a) (h : Fin 4) (a : Fin 3)
    (ho : o = h.val * 384 + a.val * 128) (d : Fin 128) :
    (show Vec Ideal S1x128 .f32 from View.ld x3 (Rect.unit (s := S1x1536) ![0, o] S1x128.size inb)) (ix2 0 d)
      = x3 (ix2 0 (bcol h a d)) := by
  subst ho
  unfold bcol
  pointwise

/-- What the body stores of a head of q or k: the head normalised. -/
theorem head_piece (o : Nat) (hs : S512x1536.Slices ![0, o] S512x128)
    (inb : ∀ a, (![0, o] : Fin 2 → Nat) a + S1x128.size a ≤ S1x1536.size a) (h : Fin 4) (a : Fin 3)
    (ho : o = h.val * 384 + a.val * 128) (G : Vec Ideal S1x128 .bf16) (r : Fin 512) (d : Fin 128) :
    vhead (vproj o hs (k1_pay3 x0 x2) (k1_pay4 x1) (View.ld x3 (Rect.unit (s := S1x1536) ![0, o] S1x128.size inb))) G (ix2 r d)
      = head (bproj x0 x1 x2 x3 h a r) (fun k => G (ix2 0 k)) d := by
  refine (vhead_at _ G r d).trans ?_
  congr 1
  funext k
  exact vproj_at x0 x1 x2 x3 o hs _ h a ho (fun d => ld_at x3 o inb h a ho d) r k

/-- The same where it lands in the stored block. -/
theorem head_stored (o : Nat) (hs : S512x1536.Slices ![0, o] S512x128)
    (inb : ∀ a, (![0, o] : Fin 2 → Nat) a + S1x128.size a ≤ S1x1536.size a) (a : Fin 3) (G : Vec Ideal S1x128 .bf16)
    (x : S1x1x512x128.Idx) (y : S1x4x512x128.Idx) (ho : o = (y 1).val * 384 + a.val * 128)
    (h2 : (y 2).val = (x 2).val) (h3 : (y 3).val = (x 3).val) :
    vpack (vhead (vproj o hs (k1_pay3 x0 x2) (k1_pay4 x1) (View.ld x3 (Rect.unit (s := S1x1536) ![0, o] S1x128.size inb))) G) x
      = head (bproj x0 x1 x2 x3 (y 1) a (y 2)) (fun k => G (ix2 0 k)) (y 3) := by
  have e2 : (x 2 : Fin 512) = y 2 := Fin.ext h2.symm
  have e3 : (x 3 : Fin 128) = y 3 := Fin.ext h3.symm
  refine (vpack_at _ x).trans ?_
  rw [e2, e3]
  exact head_piece x0 x1 x2 x3 o hs inb (y 1) a ho G (y 2) (y 3)

/-- What the body stores of a head of v: the projections as they are. -/
theorem proj_stored (o : Nat) (hs : S512x1536.Slices ![0, o] S512x128)
    (inb : ∀ a, (![0, o] : Fin 2 → Nat) a + S1x128.size a ≤ S1x1536.size a) (a : Fin 3)
    (x : S1x1x512x128.Idx) (y : S1x4x512x128.Idx) (ho : o = (y 1).val * 384 + a.val * 128)
    (h2 : (y 2).val = (x 2).val) (h3 : (y 3).val = (x 3).val) :
    vpack (truncf .bf16 (vproj o hs (k1_pay3 x0 x2) (k1_pay4 x1) (View.ld x3 (Rect.unit (s := S1x1536) ![0, o] S1x128.size inb)))
      bitsLt_bf16_f32) x = bproj x0 x1 x2 x3 (y 1) a (y 2) (y 3) := by
  have e2 : (x 2 : Fin 512) = y 2 := Fin.ext h2.symm
  have e3 : (x 3 : Fin 128) = y 3 := Fin.ext h3.symm
  refine (vpack_at _ x).trans ?_
  rw [e2, e3]
  exact vproj_at x0 x1 x2 x3 o hs _ (y 1) a ho (fun d => ld_at x3 o inb (y 1) a ho d) (y 2) (y 3)

theorem ld0 : View.ld x0 r1_0 = x0 := View.ld_unit_zero (by funext a; fin_cases a <;> rfl) _ _
theorem ld1 : View.ld x1 r1_2 = x1 := View.ld_unit_zero (by funext a; fin_cases a <;> rfl) _ _
theorem ld2 : View.ld x2 r1_1 = x2 := View.ld_unit_zero (by funext a; fin_cases a <;> rfl) _ _
theorem ld4 : View.ld x4 r1_4 = x4 := View.ld_unit_zero (by funext a; fin_cases a <;> rfl) _ _

/-- The block of q heads the body leaves. -/
theorem q_blk (y : S1x4x512x128.Idx) : out1_6 (F := Ideal) x0 x1 x2 x3 x4 x5 y
    = head (bproj x0 x1 x2 x3 (y 1) 0 (y 2)) (fun k => x4 (ix2 0 k)) (y 3) := by
  unfold out1_6 k1_pay25 k1_pay24
  rw [ld0, ld1, ld2, ld4]
  canon_tiles x h
  · exact head_stored x0 x1 x2 x3 1152 slices_S512x1536_o0_1152_S512x128 _ 0 x4 x y (by show 1152 = (y 1).val * 384 + 0 * 128; omega) h2 h3
  · exact head_stored x0 x1 x2 x3 768 slices_S512x1536_o0_768_S512x128 _ 0 x4 x y (by show 768 = (y 1).val * 384 + 0 * 128; omega) h2 h3
  · exact head_stored x0 x1 x2 x3 384 slices_S512x1536_o0_384_S512x128 _ 0 x4 x y (by show 384 = (y 1).val * 384 + 0 * 128; omega) h2 h3
  · exact head_stored x0 x1 x2 x3 0 slices_S512x1536_o0_0_S512x128 _ 0 x4 x y (by show 0 = (y 1).val * 384 + 0 * 128; omega) h2 h3

/-- The block of k heads the body leaves. -/
theorem k_blk (y : S1x4x512x128.Idx) : out1_7 (F := Ideal) x0 x1 x2 x3 x4 x5 y
    = head (bproj x0 x1 x2 x3 (y 1) 1 (y 2)) (fun k => x5 (ix2 0 k)) (y 3) := by
  unfold out1_7 k1_pay25 k1_pay24
  rw [ld0, ld1, ld2, ld4]
  canon_tiles x h
  · exact head_stored x0 x1 x2 x3 1280 slices_S512x1536_o0_1280_S512x128 _ 1 x5 x y (by show 1280 = (y 1).val * 384 + 1 * 128; omega) h2 h3
  · exact head_stored x0 x1 x2 x3 896 slices_S512x1536_o0_896_S512x128 _ 1 x5 x y (by show 896 = (y 1).val * 384 + 1 * 128; omega) h2 h3
  · exact head_stored x0 x1 x2 x3 512 slices_S512x1536_o0_512_S512x128 _ 1 x5 x y (by show 512 = (y 1).val * 384 + 1 * 128; omega) h2 h3
  · exact head_stored x0 x1 x2 x3 128 slices_S512x1536_o0_128_S512x128 _ 1 x5 x y (by show 128 = (y 1).val * 384 + 1 * 128; omega) h2 h3

/-- The block of v heads the body leaves. -/
theorem v_blk (y : S1x4x512x128.Idx) : out1_8 (F := Ideal) x0 x1 x2 x3 x4 x5 y
    = bproj x0 x1 x2 x3 (y 1) 2 (y 2) (y 3) := by
  unfold out1_8 k1_pay25 k1_pay24
  rw [ld0, ld1, ld2]
  canon_tiles x h
  · exact proj_stored x0 x1 x2 x3 1408 slices_S512x1536_o0_1408_S512x128 _ 2 x y (by show 1408 = (y 1).val * 384 + 2 * 128; omega) h2 h3
  · exact proj_stored x0 x1 x2 x3 1024 slices_S512x1536_o0_1024_S512x128 _ 2 x y (by show 1024 = (y 1).val * 384 + 2 * 128; omega) h2 h3
  · exact proj_stored x0 x1 x2 x3 640 slices_S512x1536_o0_640_S512x128 _ 2 x y (by show 640 = (y 1).val * 384 + 2 * 128; omega) h2 h3
  · exact proj_stored x0 x1 x2 x3 256 slices_S512x1536_o0_256_S512x128 _ 2 x y (by show 256 = (y 1).val * 384 + 2 * 128; omega) h2 h3

end Cert.KernelIdeal.Val

end
-- ==== Proof.ProjArr.lean ====
/- The kernel's second region: its three arrays after the last grid point, a head of a token at a time. -/
module

public import proofs.«01_k».proof.Proof.Proj

@[expose] public section

set_option maxRecDepth 16384
set_option maxHeartbeats 2000000

noncomputable section

namespace Cert.KernelIdeal.Val

open Cert.KernelIdeal Cert.KernelIdeal.Gen Idealize.ShloMosaic Idealize.ShloMosaic.TcCoe Idealize.SL.Sem Cert.Spec

/-- Which block each window reads or writes at a grid point: point `t` is column block `t / 8`, row block `t % 8`. -/
theorem idx1 : ∀ t : Fin cfg1.N, win1_0.index t = ![t.val % 8, 0] ∧ win1_1.index t = ![t.val % 8, 0]
    ∧ win1_2.index t = ![0, t.val / 8] ∧ win1_3.index t = ![0, t.val / 8] ∧ win1_4.index t = ![0, 0] ∧ win1_5.index t = ![0, 0]
    ∧ win1_6.index t = ![t.val % 8 / 2, t.val / 8, t.val % 2, 0] ∧ win1_7.index t = ![t.val % 8 / 2, t.val / 8, t.val % 2, 0]
    ∧ win1_8.index t = ![t.val % 8 / 2, t.val / 8, t.val % 2, 0] :=
  (by decide +kernel : ∀ t : Fin grid1.N, win1_0.index t = ![t.val % 8, 0] ∧ win1_1.index t = ![t.val % 8, 0]
    ∧ win1_2.index t = ![0, t.val / 8] ∧ win1_3.index t = ![0, t.val / 8] ∧ win1_4.index t = ![0, 0] ∧ win1_5.index t = ![0, 0]
    ∧ win1_6.index t = ![t.val % 8 / 2, t.val / 8, t.val % 2, 0] ∧ win1_7.index t = ![t.val % 8 / 2, t.val / 8, t.val % 2, 0]
    ∧ win1_8.index t = ![t.val % 8 / 2, t.val / 8, t.val % 2, 0])

variable (V : (c : Dev nD) → (b : Ref sig .tc) → Buf (Elt Ideal) ((c : Thread nD τ).loc b)) (c : Dev nD)

/-- A token's projections from what the second region finds: quantised tokens, weights, the two scales. -/
def projV (h : Fin 20) (a : Fin 3) (r : Fin 4096) (d : Fin 128) : EReal :=
  (∑ k : Fin 5120, (show FVec Ideal S4096x5120 .fp8e4m3 from V c main_v2_0) (ix2 r k)
      * (show FVec Ideal S5120x7680 .fp8e4m3 from V c main_arg2) (ix2 k (col h a d)))
    * (show FVec Ideal S4096x128 .f32 from V c main_v2_1) (ix2 r d)
    * (show FVec Ideal S1x7680 .f32 from V c main_v3) (ix2 0 (col h a d))

/-- The gains of q and of k as the second region finds them. -/
def qGainV (k : Fin 128) : EReal := (show FVec Ideal S1x128 .bf16 from V c main_v4) (ix2 0 k)
def kGainV (k : Fin 128) : EReal := (show FVec Ideal S1x128 .bf16 from V c main_v5) (ix2 0 k)

/-- The token at place `s` of batch element `b`. -/
def tokAt (b : Fin 4) (s : Fin 1024) : Fin 4096 := ⟨b.val * 1024 + s.val, by omega⟩

theorem tokAt_val (b : Fin 4) (s : Fin 1024) : (tokAt b s).val = b.val * 1024 + s.val := rfl

/-- A block's projections are the token's, at the block's heads. -/
theorem blk_proj (t : Fin cfg1.N) (h : Fin 4) (a : Fin 3) (r : Fin 512) (H : Fin 20) (R : Fin 4096)
    (hH : H.val = t.val / 8 * 4 + h.val) (hR : R.val = t.val % 8 * 512 + r.val) :
    bproj (iblk1 V c 0 t) (iblk1 V c 1 t) (iblk1 V c 2 t) (iblk1 V c 3 t) h a r = projV V c H a R := by
  funext d
  unfold bproj projV bcol col
  blk_point [iblk1, idx1 t]

theorem blk_qGain (t : Fin cfg1.N) : (fun k => (show FVec Ideal S1x128 .bf16 from iblk1 V c 4 t) (ix2 0 k)) = qGainV V c := by
  funext k
  unfold qGainV
  blk_point [iblk1, idx1 t]

theorem blk_kGain (t : Fin cfg1.N) : (fun k => (show FVec Ideal S1x128 .bf16 from iblk1 V c 5 t) (ix2 0 k)) = kGainV V c := by
  funext k
  unfold kGainV
  blk_point [iblk1, idx1 t]

/-- The q heads. -/
theorem q_final : (dat1 V c).arrAt 6 cfg1.N
    = fun i : S4x20x1024x128.Idx => head (projV V c (i 1) 0 (tokAt (i 0) (i 2))) (qGainV V c) (i 3) := by
  refine (dat1 V c).arrAt_eq_of_covers 6 _ (by decide +kernel) fun t hf y => ?_
  blk_simp
  rw [after1_6]
  refine (q_blk (iblk1 V c 0 t) (iblk1 V c 1 t) (iblk1 V c 2 t) (iblk1 V c 3 t) (iblk1 V c 4 t) (iblk1 V c 5 t) y).trans ?_
  refine congr (congrArg₂ (fun P G => head P G) (blk_proj V c t (y 1) 0 (y 2) _ _ ?_ ?_) (blk_qGain V c t)) (Fin.ext ?_)
  · blk_simp [idx1 t]
  · refine (tokAt_val _ _).trans ?_; blk_simp [idx1 t] <;> omega
  · blk_simp [idx1 t]

/-- The k heads. -/
theorem k_final : (dat1 V c).arrAt 7 cfg1.N
    = fun i : S4x20x1024x128.Idx => head (projV V c (i 1) 1 (tokAt (i 0) (i 2))) (kGainV V c) (i 3) := by
  refine (dat1 V c).arrAt_eq_of_covers 7 _ (by decide +kernel) fun t hf y => ?_
  blk_simp
  rw [after1_7]
  refine (k_blk (iblk1 V c 0 t) (iblk1 V c 1 t) (iblk1 V c 2 t) (iblk1 V c 3 t) (iblk1 V c 4 t) (iblk1 V c 5 t) y).trans ?_
  refine congr (congrArg₂ (fun P G => head P G) (blk_proj V c t (y 1) 1 (y 2) _ _ ?_ ?_) (blk_kGain V c t)) (Fin.ext ?_)
  · blk_simp [idx1 t]
  · refine (tokAt_val _ _).trans ?_; blk_simp [idx1 t] <;> omega
  · blk_simp [idx1 t]

/-- The v heads. -/
theorem v_final : (dat1 V c).arrAt 8 cfg1.N
    = fun i : S4x20x1024x128.Idx => projV V c (i 1) 2 (tokAt (i 0) (i 2)) (i 3) := by
  refine (dat1 V c).arrAt_eq_of_covers 8 _ (by decide +kernel) fun t hf y => ?_
  blk_simp
  rw [after1_8]
  refine (v_blk (iblk1 V c 0 t) (iblk1 V c 1 t) (iblk1 V c 2 t) (iblk1 V c 3 t) (iblk1 V c 4 t) (iblk1 V c 5 t) y).trans ?_
  refine congr (blk_proj V c t (y 1) 2 (y 2) _ _ ?_ ?_) (Fin.ext ?_)
  · blk_simp [idx1 t]
  · refine (tokAt_val _ _).trans ?_; blk_simp [idx1 t] <;> omega
  · blk_simp [idx1 t]

end Cert.KernelIdeal.Val

end
-- ==== Proof.KernelResults.lean ====
/- The kernel's five results, an element at a time, in the mathematics of one token. -/
module

public import proofs.«01_k».proof.Proof.Boundaries
public import proofs.«01_k».proof.Proof.QuantArr
public import proofs.«01_k».proof.Proof.ProjArr

@[expose] public section

set_option maxRecDepth 16384
set_option maxHeartbeats 2000000

noncomputable section

namespace Cert.KernelIdeal.Val

open Cert.KernelIdeal Cert.KernelIdeal.Gen Idealize.ShloMosaic Idealize.ShloMosaic.TcCoe Idealize.SL.Sem Cert.Spec

/-- A vector read as one row, and tokens read as rows. -/
theorem cast5120 (x : FVec Ideal S5120 .bf16) (k : Fin 5120) :
    shapeCast S1x5120 x shapeCasts_S5120_S1x5120 (ix2 0 k) = x (ix1 k) := by pointwise []
theorem cast7680 (x : FVec Ideal S7680 .f32) (k : Fin 7680) :
    shapeCast S1x7680 x shapeCasts_S7680_S1x7680 (ix2 0 k) = x (ix1 k) := by pointwise []
theorem cast128 (x : FVec Ideal S128 .bf16) (k : Fin 128) :
    shapeCast S1x128 x shapeCasts_S128_S1x128 (ix2 0 k) = x (ix1 k) := by pointwise []
theorem castRows (x : FVec Ideal S4x1024x5120 .bf16) (b : Fin 4) (s : Fin 1024) (k : Fin 5120) :
    shapeCast S4096x5120 x shapeCasts_S4x1024x5120_S4096x5120 (ix2 (tokAt b s) k) = x (ix3 b s k) := by
  unfold tokAt; pointwise []

variable (m : (ℓ : Loc nD τ sig) → Buf (Elt Ideal) ℓ) (ρ : Dev nD → PrngReg) (c : Dev nD)

/-- The arguments by their elements: a token's row, the gains, the weights, the columns' scales, the gains of q and of k. -/
def argX (b : Fin 4) (s : Fin 1024) (k : Fin 5120) : EReal :=
  (show FVec Ideal S4x1024x5120 .bf16 from m ((c.tc : Thread nD τ).loc main_arg0)) (ix3 b s k)
def argG (k : Fin 5120) : EReal := (show FVec Ideal S5120 .bf16 from m ((c.tc : Thread nD τ).loc main_arg1)) (ix1 k)
def argW (k : Fin 5120) (n : Fin 7680) : EReal :=
  (show FVec Ideal S5120x7680 .fp8e4m3 from m ((c.tc : Thread nD τ).loc main_arg2)) (ix2 k n)
def argS (n : Fin 7680) : EReal := (show FVec Ideal S7680 .f32 from m ((c.tc : Thread nD τ).loc main_arg3)) (ix1 n)
def argQ (k : Fin 128) : EReal := (show FVec Ideal S128 .bf16 from m ((c.tc : Thread nD τ).loc main_arg4)) (ix1 k)
def argK (k : Fin 128) : EReal := (show FVec Ideal S128 .bf16 from m ((c.tc : Thread nD τ).loc main_arg5)) (ix1 k)

/-- What the first region reads, of the arguments. -/
theorem row_arg (b : Fin 4) (s : Fin 1024) : rowV (V1 m ρ) c (tokAt b s) = argX m c b s := by
  funext k
  unfold rowV argX
  rw [V1_v0]
  exact castRows _ b s k
theorem gain_arg : gainV (V1 m ρ) c = argG m c := by
  funext k
  unfold gainV argG
  rw [V1_v1]
  exact cast5120 _ k

/-- The first region's arrays, at a token. -/
theorem codes_tok (b : Fin 4) (s : Fin 1024) (j : Fin 5120) :
    codesArr m ρ c (ix2 (tokAt b s) j) = code kInv (argX m c b s) (argG m c) j := by
  unfold codesArr
  rw [codes_final, ← row_arg m ρ c, ← gain_arg m ρ c]
  rfl
theorem rep_tok (b : Fin 4) (s : Fin 1024) (l : Fin 128) :
    repArr m ρ c (ix2 (tokAt b s) l) = kScale (rowM (argX m c b s) (argG m c)) := by
  unfold repArr
  rw [rep_final, ← row_arg m ρ c, ← gain_arg m ρ c]
  rfl

/-- The projections of a token, of the arguments. -/
theorem proj_tok (h : Fin 20) (a : Fin 3) (b : Fin 4) (s : Fin 1024) :
    projV (V3 m ρ) c h a (tokAt b s)
      = fun d => proj kScale kInv (argX m c b s) (argG m c) (argW m c) (argS m c) (col h a d) := by
  funext d
  unfold projV proj
  rw [V3_codes, V3_rep, V3_w, V3_v3]
  refine congrArg₂ (· * ·) (congrArg₂ (· * ·) (Finset.sum_congr rfl fun k _ => ?_) (rep_tok m ρ c b s d)) ?_
  · exact congrArg (· * _) (codes_tok m ρ c b s k)
  · exact cast7680 _ _

theorem qGain_arg : qGainV (V3 m ρ) c = argQ m c := by
  funext k
  unfold qGainV argQ
  rw [V3_v4]
  exact cast128 _ k
theorem kGain_arg : kGainV (V3 m ρ) c = argK m c := by
  funext k
  unfold kGainV argK
  rw [V3_v5]
  exact cast128 _ k

/-- The five results at an element. -/
theorem v7_at (b : Fin 4) (s : Fin 1024) (h : Fin 20) (d : Fin 128) :
    (show FVec Ideal S4x1024x20x128 .bf16 from W5 m ρ c (Proc.devRef .tc main_v7)) (ix4 b s h d)
      = head (fun d => proj kScale kInv (argX m c b s) (argG m c) (argW m c) (argS m c) (col h 0 d)) (argQ m c) d := by
  rw [W5_v7]
  refine Eq.trans (b := qArr m ρ c (ix4 b h s d)) (by pointwise []) ?_
  unfold qArr
  rw [q_final, ← proj_tok m ρ c, ← qGain_arg m ρ c]
  rfl
theorem v8_at (b : Fin 4) (s : Fin 1024) (h : Fin 20) (d : Fin 128) :
    (show FVec Ideal S4x1024x20x128 .bf16 from W5 m ρ c (Proc.devRef .tc main_v8)) (ix4 b s h d)
      = head (fun d => proj kScale kInv (argX m c b s) (argG m c) (argW m c) (argS m c) (col h 1 d)) (argK m c) d := by
  rw [W5_v8]
  refine Eq.trans (b := kArr m ρ c (ix4 b h s d)) (by pointwise []) ?_
  unfold kArr
  rw [k_final, ← proj_tok m ρ c, ← kGain_arg m ρ c]
  rfl
theorem v9_at (b : Fin 4) (s : Fin 1024) (h : Fin 20) (d : Fin 128) :
    (show FVec Ideal S4x1024x20x128 .bf16 from W5 m ρ c (Proc.devRef .tc main_v9)) (ix4 b s h d)
      = proj kScale kInv (argX m c b s) (argG m c) (argW m c) (argS m c) (col h 2 d) := by
  rw [W5_v9]
  refine Eq.trans (b := vArr m ρ c (ix4 b h s d)) (by pointwise []) ?_
  unfold vArr
  rw [v_final]
  exact congrFun (proj_tok m ρ c h 2 b s) d
theorem v10_at (b : Fin 4) (s : Fin 1024) (j : Fin 5120) :
    (show FVec Ideal S4x1024x5120 .fp8e4m3 from W5 m ρ c (Proc.devRef .tc main_v10)) (ix3 b s j)
      = code kInv (argX m c b s) (argG m c) j := by
  rw [W5_v10, ← codes_tok m ρ c]
  unfold tokAt
  pointwise []
theorem v11_at (b : Fin 4) (s : Fin 1024) (z : Fin 1) :
    (show FVec Ideal S4x1024x1 .f32 from W5 m ρ c (Proc.devRef .tc main_v11)) (ix3 b s z)
      = kScale (rowM (argX m c b s) (argG m c)) := by
  rw [W5_v11]
  refine Eq.trans (b := scaleArr m ρ c (ix3 ⟨b.val * 8 + s.val / 128, by omega⟩ 0 ⟨s.val % 128, by omega⟩))
    (by pointwise []) ?_
  unfold scaleArr
  rw [scale_final, ← row_arg m ρ c, ← gain_arg m ρ c]
  refine congrArg (fun r => kScale (rowM (rowV (V1 m ρ) c r) (gainV (V1 m ρ) c))) (Fin.ext ?_)
  show (b.val * 8 + s.val / 128) * 128 + s.val % 128 = b.val * 1024 + s.val
  omega

end Cert.KernelIdeal.Val

end
-- ==== Proof.RefRun.lean ====
/- The reference program's run: what its five results hold, as host terms over the arguments and the two arrays its one
   region leaves. -/
module

public import proofs.«01_k».proof.Proof.Gen.ReferenceIdeal
public import proofs.«01_k».proof.Proof.Gen.ReferenceIdeal.Frame
public import Idealize.ShloMosaic.Lib.StableHlo.Run
public import Idealize.ShloMosaic.Lib.Pipeline.FrameSuffix

@[expose] public section

set_option maxRecDepth 16384
set_option maxHeartbeats 2000000

noncomputable section

namespace Cert.ReferenceIdeal.Val

open Cert.ReferenceIdeal Cert.ReferenceIdeal.Gen Idealize.ShloMosaic Idealize.ShloMosaic.TcCoe Idealize.SL.Sem
  Idealize.ShloMosaic.StableHlo

variable {F : FTy → Type} [FloatOps F]

/-! ## The host terms -/

/-- The normalised tokens. -/
def refH (x : FVec F S4x1024x5120 .bf16) (g : FVec F S5120 .bf16) : FVec F S4x1024x5120 .f32 :=
  mulf (mulf (extf .f32 x bitsLt_bf16_f32) (broadcastInDim S4x1024x5120 ![0, 1, 2] bcast_S4x1024x1_S4x1024x5120_0_1_2
    (Host.rsqrt (addf (Host.divf (broadcastInDim S4x1024x1 ![0, 1] bcast_S4x1024_S4x1024x1_0_1
      (Host.reduceAdd (mulf (extf .f32 x bitsLt_bf16_f32) (extf .f32 x bitsLt_bf16_f32)) (constant S_ .f32 0x00000000#32)
        reducesTo_S4x1024x5120_S4x1024_d2 h_S_))
      (broadcastInDim S4x1024x1 ![] bcast_S_S4x1024x1 (constant S_ .f32 0x45A00000#32)))
      (broadcastInDim S4x1024x1 ![] bcast_S_S4x1024x1 (constant S_ .f32 0x358637BD#32))))))
    (broadcastInDim S4x1024x5120 ![0, 1, 2] bcast_S1x1x5120_S4x1024x5120_0_1_2
      (broadcastInDim S1x1x5120 ![2] bcast_S5120_S1x1x5120_2 (extf .f32 g bitsLt_bf16_f32)))

/-- Each token's greatest magnitude, over 448. -/
def refM (h : FVec F S4x1024x5120 .f32) : FVec F S4x1024x1 .f32 :=
  mulf (broadcastInDim S4x1024x1 ![0, 1] bcast_S4x1024_S4x1024x1_0_1
    (Host.reduce FloatOps.maximumf (Host.absf h) (constant S_ .f32 0xFF800000#32) reducesTo_S4x1024x5120_S4x1024_d2 h_S_))
    (broadcastInDim S4x1024x1 ![] bcast_S_S4x1024x1 (constant S_ .f32 0x3B124925#32))

/-- Each token's exponent. -/
def refE (M : FVec F S4x1024x1 .f32) : FVec F S4x1024x1 .f32 :=
  select (cmpf .olt M (broadcastInDim S4x1024x1 ![] bcast_S_S4x1024x1 (constant S_ .f32 0x00800000#32)))
    (broadcastInDim S4x1024x1 ![] bcast_S_S4x1024x1 (id (constant S_ .f32 0x00000000#32)))
    (addf (Host.floor (Host.divf (Host.log M) (broadcastInDim S4x1024x1 ![] bcast_S_S4x1024x1 (Host.log (constant S_ .f32 0x40000000#32)))))
      (broadcastInDim S4x1024x1 ![] bcast_S_S4x1024x1 (constant S_ .f32 0x3F800000#32)))

/-- Two to the power of each token's exponent, and of its negation. -/
def refScale (e : FVec F S4x1024x1 .f32) : FVec F S4x1024x1 .f32 :=
  Host.powf (broadcastInDim S4x1024x1 ![] bcast_S_S4x1024x1 (constant S_ .f32 0x40000000#32)) e
def refInv (e : FVec F S4x1024x1 .f32) : FVec F S4x1024x1 .f32 :=
  Host.powf (broadcastInDim S4x1024x1 ![] bcast_S_S4x1024x1 (constant S_ .f32 0x40000000#32)) (Host.negf e)

/-- The tokens over their scales, as rows. -/
def refScaled (h : FVec F S4x1024x5120 .f32) (inv : FVec F S4x1024x1 .f32) : FVec F S4096x5120 .f32 :=
  shapeCast S4096x5120 (mulf h (broadcastInDim S4x1024x5120 ![0, 1, 2] bcast_S4x1024x1_S4x1024x5120_0_1_2 inv))
    shapeCasts_S4x1024x5120_S4096x5120

/-- The rescaled projections, by token, head and part. -/
def refP (acc : FVec F S4096x7680 .f32) (sc : FVec F S4x1024x1 .f32) (ws : FVec F S7680 .f32) : FVec F S4x1024x20x3x128 .f32 :=
  shapeCast S4x1024x20x3x128 (mulf (mulf (shapeCast S4x1024x7680 acc shapeCasts_S4096x7680_S4x1024x7680)
    (broadcastInDim S4x1024x7680 ![0, 1, 2] bcast_S4x1024x1_S4x1024x7680_0_1_2 sc))
    (broadcastInDim S4x1024x7680 ![0, 1, 2] bcast_S1x1x7680_S4x1024x7680_0_1_2
      (broadcastInDim S1x1x7680 ![2] bcast_S7680_S1x1x7680_2 ws))) shapeCasts_S4x1024x7680_S4x1024x20x3x128

/-- The three parts of the projections. -/
def refQ (P : FVec F S4x1024x20x3x128 .f32) : FVec F S4x1024x20x128 .f32 :=
  shapeCast S4x1024x20x128 (extractStridedSlice S4x1024x20x1x128 ![0, 0, 0, 0, 0] P slices_S4x1024x20x3x128_S4x1024x20x1x128_0_0_0_0_0)
    shapeCasts_S4x1024x20x1x128_S4x1024x20x128
def refK (P : FVec F S4x1024x20x3x128 .f32) : FVec F S4x1024x20x128 .f32 :=
  shapeCast S4x1024x20x128 (extractStridedSlice S4x1024x20x1x128 ![0, 0, 0, 1, 0] P slices_S4x1024x20x3x128_S4x1024x20x1x128_0_0_0_1_0)
    shapeCasts_S4x1024x20x1x128_S4x1024x20x128
def refV (P : FVec F S4x1024x20x3x128 .f32) : FVec F S4x1024x20x128 .f32 :=
  shapeCast S4x1024x20x128 (extractStridedSlice S4x1024x20x1x128 ![0, 0, 0, 2, 0] P slices_S4x1024x20x3x128_S4x1024x20x1x128_0_0_0_2_0)
    shapeCasts_S4x1024x20x1x128_S4x1024x20x128

/-- The normalised heads. -/
def refHead (P : FVec F S4x1024x20x128 .f32) (g : FVec F S128 .bf16) : FVec F S4x1024x20x128 .bf16 :=
  truncf .bf16 (mulf (mulf P (broadcastInDim S4x1024x20x128 ![0, 1, 2, 3] bcast_S4x1024x20x1_S4x1024x20x128_0_1_2_3
    (Host.rsqrt (addf (Host.divf (broadcastInDim S4x1024x20x1 ![0, 1, 2] bcast_S4x1024x20_S4x1024x20x1_0_1_2
      (Host.reduceAdd (mulf P P) (constant S_ .f32 0x00000000#32) reducesTo_S4x1024x20x128_S4x1024x20_d3 h_S_))
      (broadcastInDim S4x1024x20x1 ![] bcast_S_S4x1024x20x1 (constant S_ .f32 0x43000000#32)))
      (broadcastInDim S4x1024x20x1 ![] bcast_S_S4x1024x20x1 (constant S_ .f32 0x358637BD#32))))))
    (broadcastInDim S4x1024x20x128 ![0, 1, 2, 3] bcast_S1x1x1x128_S4x1024x20x128_0_1_2_3
      (broadcastInDim S1x1x1x128 ![3] bcast_S128_S1x1x1x128_3 (extf .f32 g bitsLt_bf16_f32)))) bitsLt_bf16_f32

/-! ## Before the region -/

variable (m : (ℓ : Loc nD τ sig) → Buf (Elt F) ℓ) (ρ : Dev nD → PrngReg) (c : Dev nD)

/-- The scales, and the rows the region reads, of the arguments. -/
def scales : FVec F S4x1024x1 .f32 :=
  refScale (refE (refM (refH (m ((c.tc : Thread nD τ).loc main_arg0)) (m ((c.tc : Thread nD τ).loc main_arg1)))))
def rows : FVec F S4096x5120 .f32 :=
  refScaled (refH (m ((c.tc : Thread nD τ).loc main_arg0)) (m ((c.tc : Thread nD τ).loc main_arg1)))
    (refInv (refE (refM (refH (m ((c.tc : Thread nD τ).loc main_arg0)) (m ((c.tc : Thread nD τ).loc main_arg1))))))

theorem V0_v31 : Gen.V0 m c (Proc.devRef .tc main_v31) = scales m c := by
  simp only [Gen.V0, Gen.hostOps0, Gen.hostOps0_1, Gen.hostOps0_2, TRef.ternary, TRef.unary, TRef.toBuf, TRef.ofBuf, cast_eq,
    List.flatten_cons, List.flatten_nil, List.append_nil, List.cons_append, List.nil_append]
  after_results_simp <;> rfl

theorem V0_v37 : Gen.V0 m c (Proc.devRef .tc main_v37) = rows m c := by
  simp only [Gen.V0, Gen.hostOps0, Gen.hostOps0_1, Gen.hostOps0_2, TRef.ternary, TRef.unary, TRef.toBuf, TRef.ofBuf, cast_eq,
    List.flatten_cons, List.flatten_nil, List.append_nil, List.cons_append, List.nil_append]
  after_results_simp <;> rfl

/-! ## After the region -/

/-- The quantised tokens and the products the region leaves. -/
def codesArr : FVec F S4096x5120 .fp8e4m3 := (Gen.dats m 0 c).arrAt 2 cfg0.N
def accArr : FVec F S4096x7680 .f32 := (Gen.dats m 0 c).arrAt 3 cfg0.N

/-- The buffers when the region is left: its arrays at what it leaves, every other buffer as it found it. -/
def exitV : Valuation τ sig (Elt F) :=
  Pipeline.withArrays spec0 c (Gen.V0 m c) fun w => (Gen.dats m 0 c).arrAt w cfg0.N

theorem exit_arg3 : exitV m c (Proc.devRef .tc main_arg3) = m ((c.tc : Thread nD τ).loc main_arg3) :=
  (Pipeline.withArrays_of_ne _ c (Gen.V0 m c) _ main_arg3 (by exact (by decide : ∀ w, Pipeline.arrRef spec0 w ≠ main_arg3))).trans (Gen.V_main_arg3 m c)
theorem exit_arg4 : exitV m c (Proc.devRef .tc main_arg4) = m ((c.tc : Thread nD τ).loc main_arg4) :=
  (Pipeline.withArrays_of_ne _ c (Gen.V0 m c) _ main_arg4 (by exact (by decide : ∀ w, Pipeline.arrRef spec0 w ≠ main_arg4))).trans (Gen.V_main_arg4 m c)
theorem exit_arg5 : exitV m c (Proc.devRef .tc main_arg5) = m ((c.tc : Thread nD τ).loc main_arg5) :=
  (Pipeline.withArrays_of_ne _ c (Gen.V0 m c) _ main_arg5 (by exact (by decide : ∀ w, Pipeline.arrRef spec0 w ≠ main_arg5))).trans (Gen.V_main_arg5 m c)
theorem exit_v31 : exitV m c (Proc.devRef .tc main_v31) = scales m c :=
  (Pipeline.withArrays_of_ne _ c (Gen.V0 m c) _ main_v31 (by exact (by decide : ∀ w, Pipeline.arrRef spec0 w ≠ main_v31))).trans (V0_v31 m c)
theorem exit_codes : exitV m c (Proc.devRef .tc main_v38_0) = codesArr m c :=
  Pipeline.withArrays_arr spec0 Gen.launch0.win.arr_inj c (Gen.V0 m c) _ 2
theorem exit_acc : exitV m c (Proc.devRef .tc main_v38_1) = accArr m c :=
  Pipeline.withArrays_arr spec0 Gen.launch0.win.arr_inj c (Gen.V0 m c) _ 3

section Tail
variable (V0 : Valuation τ sig (Elt F))

/-- The later operations' results over the buffers they find. -/
theorem tail_v66 : after (List.flatten [Gen.hostOps1]) V0 (Proc.devRef .tc main_v66)
    = refHead (refQ (refP (V0 (Proc.devRef .tc main_v38_1)) (V0 (Proc.devRef .tc main_v31)) (V0 (Proc.devRef .tc main_arg3))))
        (V0 (Proc.devRef .tc main_arg4)) := by
  simp only [Gen.hostOps1, List.flatten_cons, List.flatten_nil, List.append_nil, List.cons_append, List.nil_append]
  after_results_simp <;> rfl
theorem tail_v81 : after (List.flatten [Gen.hostOps1]) V0 (Proc.devRef .tc main_v81)
    = refHead (refK (refP (V0 (Proc.devRef .tc main_v38_1)) (V0 (Proc.devRef .tc main_v31)) (V0 (Proc.devRef .tc main_arg3))))
        (V0 (Proc.devRef .tc main_arg5)) := by
  simp only [Gen.hostOps1, List.flatten_cons, List.flatten_nil, List.append_nil, List.cons_append, List.nil_append]
  after_results_simp <;> rfl
theorem tail_v82 : after (List.flatten [Gen.hostOps1]) V0 (Proc.devRef .tc main_v82)
    = truncf .bf16 (refV (refP (V0 (Proc.devRef .tc main_v38_1)) (V0 (Proc.devRef .tc main_v31)) (V0 (Proc.devRef .tc main_arg3))))
        bitsLt_bf16_f32 := by
  simp only [Gen.hostOps1, List.flatten_cons, List.flatten_nil, List.append_nil, List.cons_append, List.nil_append]
  after_results_simp <;> rfl
theorem tail_v83 : after (List.flatten [Gen.hostOps1]) V0 (Proc.devRef .tc main_v83)
    = shapeCast S4x1024x5120 (V0 (Proc.devRef .tc main_v38_0)) shapeCasts_S4096x5120_S4x1024x5120 := by
  simp only [Gen.hostOps1, List.flatten_cons, List.flatten_nil, List.append_nil, List.cons_append, List.nil_append]
  after_results_simp <;> rfl
theorem tail_v31 : after (List.flatten [Gen.hostOps1]) V0 (Proc.devRef .tc main_v31) = V0 (Proc.devRef .tc main_v31) := by
  simp only [Gen.hostOps1, List.flatten_cons, List.flatten_nil, List.append_nil, List.cons_append, List.nil_append]
  after_results_simp <;> rfl

end Tail

/-! ## The run -/

/-- The rescaled projections, of the arguments. -/
def projs : FVec F S4x1024x20x3x128 .f32 := refP (accArr m c) (scales m c) (m ((c.tc : Thread nD τ).loc main_arg3))

/-- The five results. -/
def resQ : FVec F S4x1024x20x128 .bf16 := refHead (refQ (projs m c)) (m ((c.tc : Thread nD τ).loc main_arg4))
def resK : FVec F S4x1024x20x128 .bf16 := refHead (refK (projs m c)) (m ((c.tc : Thread nD τ).loc main_arg5))
def resV : FVec F S4x1024x20x128 .bf16 := truncf .bf16 (refV (projs m c)) bitsLt_bf16_f32
def resCodes : FVec F S4x1024x5120 .fp8e4m3 := shapeCast S4x1024x5120 (codesArr m c) shapeCasts_S4096x5120_S4x1024x5120

theorem fin_v66 : Pipeline.afterTail₀ cfgs (Gen.dats m) 0 (Gen.V0 m) [Gen.hostOps1] c main_v66 = resQ m c := by
  refine (tail_v66 (exitV m c)).trans ?_
  rw [exit_acc, exit_v31, exit_arg3, exit_arg4]; rfl
theorem fin_v81 : Pipeline.afterTail₀ cfgs (Gen.dats m) 0 (Gen.V0 m) [Gen.hostOps1] c main_v81 = resK m c := by
  refine (tail_v81 (exitV m c)).trans ?_
  rw [exit_acc, exit_v31, exit_arg3, exit_arg5]; rfl
theorem fin_v82 : Pipeline.afterTail₀ cfgs (Gen.dats m) 0 (Gen.V0 m) [Gen.hostOps1] c main_v82 = resV m c := by
  refine (tail_v82 (exitV m c)).trans ?_
  rw [exit_acc, exit_v31, exit_arg3]; rfl
theorem fin_v83 : Pipeline.afterTail₀ cfgs (Gen.dats m) 0 (Gen.V0 m) [Gen.hostOps1] c main_v83 = resCodes m c := by
  refine (tail_v83 (exitV m c)).trans ?_
  rw [exit_codes]; rfl
theorem fin_v31 : Pipeline.afterTail₀ cfgs (Gen.dats m) 0 (Gen.V0 m) [Gen.hostOps1] c main_v31 = scales m c :=
  (tail_v31 (exitV m c)).trans (exit_v31 m c)

/-- Every run of the reference ends with the five results above, the arguments as they were. -/
theorem run : θ_run defs (onTc (τ := τ) (main (F := F))) ⟨m, fun _ => 0, ρ⟩ fun r => ∀ c : Dev nD,
    r.2.mem ((c.tc : Thread nD τ).loc main_v66) = resQ m c
    ∧ r.2.mem ((c.tc : Thread nD τ).loc main_v81) = resK m c
    ∧ r.2.mem ((c.tc : Thread nD τ).loc main_v82) = resV m c
    ∧ r.2.mem ((c.tc : Thread nD τ).loc main_v83) = resCodes m c
    ∧ r.2.mem ((c.tc : Thread nD τ).loc main_v31) = scales m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  (θ_run defs _ _).mono (fun _ h c =>
    ⟨((h c).2 main_v66 (Pipeline.mem_restRefs_of main_v66 (by decide) (by decide))).trans (fin_v66 m c),
     ((h c).2 main_v81 (Pipeline.mem_restRefs_of main_v81 (by decide) (by decide))).trans (fin_v81 m c),
     ((h c).2 main_v82 (Pipeline.mem_restRefs_of main_v82 (by decide) (by decide))).trans (fin_v82 m c),
     ((h c).2 main_v83 (Pipeline.mem_restRefs_of main_v83 (by decide) (by decide))).trans (fin_v83 m c),
     ((h c).2 main_v31 (Pipeline.mem_restRefs_of main_v31 (by decide) (by decide))).trans (fin_v31 m c),
     ((h c).2 main_arg0 (Pipeline.mem_restRefs_of main_arg0 (by decide) (by decide))).trans (Gen.W_main_arg0 m (Gen.dats m) c),
     ((h c).2 main_arg1 (Pipeline.mem_restRefs_of main_arg1 (by decide) (by decide))).trans (Gen.W_main_arg1 m (Gen.dats m) c),
     ((h c).1 1).trans (((Gen.dats m 0 c).arrAt_in 1 rfl _).trans ((Gen.A_eq m c 1).trans (Gen.V_main_arg2 m c))),
     ((h c).2 main_arg3 (Pipeline.mem_restRefs_of main_arg3 (by decide) (by decide))).trans (Gen.W_main_arg3 m (Gen.dats m) c),
     ((h c).2 main_arg4 (Pipeline.mem_restRefs_of main_arg4 (by decide) (by decide))).trans (Gen.W_main_arg4 m (Gen.dats m) c),
     ((h c).2 main_arg5 (Pipeline.mem_restRefs_of main_arg5 (by decide) (by decide))).trans (Gen.W_main_arg5 m (Gen.dats m) c)⟩)
    (Gen.run_main m ρ)

end Cert.ReferenceIdeal.Val

end
-- ==== Proof.RefAt.lean ====
/- The reference's host terms, an element at a time, in the mathematics of one token. -/
module

public import proofs.«01_k».proof.Proof.RefRun
public import proofs.«01_k».proof.Proof.Spec
public import Idealize.ShloMosaic.Lib.Pipeline.ValueKit
public import Idealize.ShloMosaic.Lib.Pointwise

@[expose] public section

set_option maxRecDepth 16384
set_option maxHeartbeats 2000000

noncomputable section

namespace Cert.ReferenceIdeal.Val

open Cert.ReferenceIdeal Cert.ReferenceIdeal.Gen Idealize.ShloMosaic Idealize.ShloMosaic.TcCoe Idealize.SL.Sem Cert.Spec

/-- A token's normalised row. -/
theorem refH_at (x : FVec Ideal S4x1024x5120 .bf16) (g : FVec Ideal S5120 .bf16) (b : Fin 4) (s : Fin 1024) (j : Fin 5120) :
    refH x g (ix3 b s j) = Spec.norm (fun k => x (ix3 b s k)) (fun k => g (ix1 k)) j := by
  unfold Spec.norm
  pointwise [refH]

/-- The greatest element of a row. -/
theorem fold_at (h : FVec Ideal S4x1024x5120 .f32) (b : Fin 4) (s : Fin 1024) :
    Host.reduce FloatOps.maximumf h (constant S_ .f32 0xFF800000#32) reducesTo_S4x1024x5120_S4x1024_d2 h_S_ (ix2 b s)
      = (Finset.univ : Finset (Fin 5120)).fold max negInf fun j => h (ix3 b s j) := by
  pointwise []

/-- A number a token times 1/448. -/
theorem over448_at (R : FVec Ideal S4x1024 .f32) (b : Fin 4) (s : Fin 1024) (z : Fin 1) :
    mulf (broadcastInDim S4x1024x1 ![0, 1] bcast_S4x1024_S4x1024x1_0_1 R)
      (broadcastInDim S4x1024x1 ![] bcast_S_S4x1024x1 (constant S_ .f32 0x3B124925#32)) (ix3 b s z) = R (ix2 b s) * inv448 := by
  pointwise []

/-- The number a token's scale is taken from. -/
theorem refM_at (h : FVec Ideal S4x1024x5120 .f32) (b : Fin 4) (s : Fin 1024) (z : Fin 1) :
    refM h (ix3 b s z) = ((Finset.univ : Finset (Fin 5120)).fold max negInf fun j => max (h (ix3 b s j)) (-(h (ix3 b s j)))) * inv448 :=
  (over448_at _ b s z).trans (congrArg (· * inv448) (fold_at (Host.absf h) b s))

/-- A token's exponent, its scale and the scale's inverse. -/
theorem refE_at (M : FVec Ideal S4x1024x1 .f32) (b : Fin 4) (s : Fin 1024) (z : Fin 1) :
    refE M (ix3 b s z) = rExp (M (ix3 b s z)) := by
  unfold rExp
  pointwise [refE, id_eq]

theorem refScale_at (e : FVec Ideal S4x1024x1 .f32) (b : Fin 4) (s : Fin 1024) (z : Fin 1) :
    refScale e (ix3 b s z) = Ideal.pow two (e (ix3 b s z)) := by
  pointwise [refScale]
theorem refInv_at (e : FVec Ideal S4x1024x1 .f32) (b : Fin 4) (s : Fin 1024) (z : Fin 1) :
    refInv e (ix3 b s z) = Ideal.pow two (-(e (ix3 b s z))) := by
  pointwise [refInv]

/-- The rows the region reads. -/
theorem refScaled_at (h : FVec Ideal S4x1024x5120 .f32) (v : FVec Ideal S4x1024x1 .f32) (b : Fin 4) (s : Fin 1024) (k : Fin 5120) :
    refScaled h v (ix2 ⟨b.val * 1024 + s.val, by omega⟩ k) = h (ix3 b s k) * v (ix3 b s 0) := by
  pointwise [refScaled]

/-- The rescaled projections. -/
theorem refP_at (acc : FVec Ideal S4096x7680 .f32) (sc : FVec Ideal S4x1024x1 .f32) (ws : FVec Ideal S7680 .f32)
    (b : Fin 4) (s : Fin 1024) (h : Fin 20) (a : Fin 3) (d : Fin 128) :
    refP acc sc ws (ix5 b s h a d)
      = acc (ix2 ⟨b.val * 1024 + s.val, by omega⟩ (col h a d)) * sc (ix3 b s 0) * ws (ix1 (col h a d)) := by
  unfold col
  pointwise [refP]

/-- The three parts. -/
theorem refQ_at (P : FVec Ideal S4x1024x20x3x128 .f32) (b : Fin 4) (s : Fin 1024) (h : Fin 20) (d : Fin 128) :
    refQ P (ix4 b s h d) = P (ix5 b s h 0 d) := by
  pointwise [refQ]
theorem refK_at (P : FVec Ideal S4x1024x20x3x128 .f32) (b : Fin 4) (s : Fin 1024) (h : Fin 20) (d : Fin 128) :
    refK P (ix4 b s h d) = P (ix5 b s h 1 d) := by
  pointwise [refK]
theorem refV_at (P : FVec Ideal S4x1024x20x3x128 .f32) (b : Fin 4) (s : Fin 1024) (h : Fin 20) (d : Fin 128) :
    refV P (ix4 b s h d) = P (ix5 b s h 2 d) := by
  pointwise [refV]

/-- A normalised head. -/
theorem refHead_at (P : FVec Ideal S4x1024x20x128 .f32) (g : FVec Ideal S128 .bf16) (b : Fin 4) (s : Fin 1024) (h : Fin 20)
    (d : Fin 128) :
    refHead P g (ix4 b s h d) = head (fun k => P (ix4 b s h k)) (fun k => g (ix1 k)) d := by
  unfold head
  pointwise [refHead]

end Cert.ReferenceIdeal.Val

end
-- ==== Proof.RefResults.lean ====
/- The reference's five results, an element at a time, in the mathematics of one token. -/
module

public import proofs.«01_k».proof.Proof.RefAt

@[expose] public section

set_option maxRecDepth 16384
set_option maxHeartbeats 2000000

noncomputable section

namespace Cert.ReferenceIdeal.Val

open Cert.ReferenceIdeal Cert.ReferenceIdeal.Gen Idealize.ShloMosaic Idealize.ShloMosaic.TcCoe Idealize.SL.Sem Cert.Spec

/-- The region's two stored values: the clipped rows, and their products with the weights. -/
theorem pay1_at (x : Vec Ideal S4096x5120 .f32) (r : Fin 4096) (k : Fin 5120) :
    k0_pay1 (F := Ideal) x (ix2 r k) = min hi (max lo (x (ix2 r k))) := by
  pointwise [k0_pay1]

theorem prod_at (cd : FVec Ideal S4096x5120 .fp8e4m3) (w : FVec Ideal S5120x7680 .fp8e4m3) (r : Fin 4096) (n : Fin 7680) :
    matmul dot_S4096x5120_S5120x7680_S4096x7680_1_0_0_1_n_n none cd w (constant (F := Ideal) S4096x7680 .f32 0x00000000#32) (ix2 r n)
      = ∑ k : Fin 5120, cd (ix2 r k) * w (ix2 k n) := by
  pointwise []

theorem pay2_at (x : Vec Ideal S4096x5120 .f32) (w : Vec Ideal S5120x7680 .fp8e4m3) (r : Fin 4096) (n : Fin 7680) :
    k0_pay2 (F := Ideal) x w (ix2 r n) = ∑ k : Fin 5120, k0_pay1 (F := Ideal) x (ix2 r k) * w (ix2 k n) :=
  prod_at _ w r n

variable (m : (ℓ : Loc nD τ sig) → Buf (Elt Ideal) ℓ) (ρ : Dev nD → PrngReg) (c : Dev nD)

/-- The region's only grid point reads and writes whole arrays. -/
theorem idx0 : win0_0.index t0_0 = ![0, 0] ∧ win0_1.index t0_0 = ![0, 0] ∧ win0_2.index t0_0 = ![0, 0]
    ∧ win0_3.index t0_0 = ![0, 0] := by decide +kernel

theorem read0 (A : FVec Ideal S4096x5120 .f32) : ((cfg0.win 0).blk t0_0).view.read (Elt Ideal) A = A := by
  funext y
  blk_point [idx0]
theorem read1 (A : FVec Ideal S5120x7680 .fp8e4m3) : ((cfg0.win 1).blk t0_0).view.read (Elt Ideal) A = A := by
  funext y
  blk_point [idx0]

theorem blk0 : (show FVec Ideal S4096x5120 .f32 from iblk m c 0 t0_0) = rows m c :=
  (congrArg (fun A => ((cfg0.win 0).blk t0_0).view.read (Elt Ideal) A) (V0_v37 m c)).trans (read0 _)
theorem blk1 : (show FVec Ideal S5120x7680 .fp8e4m3 from iblk m c 1 t0_0) = m ((c.tc : Thread nD τ).loc main_arg2) :=
  (congrArg (fun A => ((cfg0.win 1).blk t0_0).view.read (Elt Ideal) A) (V_main_arg2 m c)).trans (read1 _)

/-- What the body stores, of what it loads. -/
theorem out2_at (x0 : Vec Ideal S4096x5120 .f32) (x1 : Vec Ideal S5120x7680 .fp8e4m3) (y : S4096x5120.Idx) :
    out0_2 (F := Ideal) x0 x1 y = k0_pay1 (F := Ideal) x0 y := by
  frame_out
theorem out3_at (x0 : Vec Ideal S4096x5120 .f32) (x1 : Vec Ideal S5120x7680 .fp8e4m3) (y : S4096x7680.Idx) :
    out0_3 (F := Ideal) x0 x1 y = k0_pay2 (F := Ideal) x0 x1 y := by
  frame_out

/-- What the region leaves. -/
theorem codes_final : codesArr m c = k0_pay1 (F := Ideal) (rows m c) := by
  unfold codesArr
  refine (dats m 0 c).arrAt_eq_of_after_last 2 t0_0 (by decide +kernel) _ fun j => ?_
  refine (cast_eq _ _).trans ((congrFun (after0_2 m c t0_0) _).trans ((out2_at _ _ _).trans ?_))
  refine (congrFun (congrArg (k0_pay1 (F := Ideal)) (blk0 m c)) _).trans ?_
  generalize k0_pay1 (F := Ideal) (rows m c) = z
  refine congrArg z ?_
  funext a
  refine Fin.ext ?_
  blk_simp [idx0]

theorem acc_final : accArr m c = k0_pay2 (F := Ideal) (rows m c) (m ((c.tc : Thread nD τ).loc main_arg2)) := by
  unfold accArr
  refine (dats m 0 c).arrAt_eq_of_after_last 3 t0_0 (by decide +kernel) _ fun j => ?_
  refine (cast_eq _ _).trans ((congrFun (after0_3 m c t0_0) _).trans ((out3_at _ _ _).trans ?_))
  refine (congrFun (congrArg₂ (k0_pay2 (F := Ideal)) (blk0 m c) (blk1 m c)) _).trans ?_
  generalize k0_pay2 (F := Ideal) (rows m c) (m ((c.tc : Thread nD τ).loc main_arg2)) = z
  refine congrArg z ?_
  funext a
  refine Fin.ext ?_
  blk_simp [idx0]

/-- The arguments by their elements: a token's row, the gains, the weights, the columns' scales, the gains of q and of k. -/
def argX (b : Fin 4) (s : Fin 1024) (k : Fin 5120) : EReal :=
  (show FVec Ideal S4x1024x5120 .bf16 from m ((c.tc : Thread nD τ).loc main_arg0)) (ix3 b s k)
def argG (k : Fin 5120) : EReal := (show FVec Ideal S5120 .bf16 from m ((c.tc : Thread nD τ).loc main_arg1)) (ix1 k)
def argW (k : Fin 5120) (n : Fin 7680) : EReal :=
  (show FVec Ideal S5120x7680 .fp8e4m3 from m ((c.tc : Thread nD τ).loc main_arg2)) (ix2 k n)
def argS (n : Fin 7680) : EReal := (show FVec Ideal S7680 .f32 from m ((c.tc : Thread nD τ).loc main_arg3)) (ix1 n)
def argQ (k : Fin 128) : EReal := (show FVec Ideal S128 .bf16 from m ((c.tc : Thread nD τ).loc main_arg4)) (ix1 k)
def argK (k : Fin 128) : EReal := (show FVec Ideal S128 .bf16 from m ((c.tc : Thread nD τ).loc main_arg5)) (ix1 k)

/-- The number a token's scale is taken from, of the arguments. -/
theorem M_tok (b : Fin 4) (s : Fin 1024) (z : Fin 1) :
    refM (F := Ideal) (refH (F := Ideal) (m ((c.tc : Thread nD τ).loc main_arg0)) (m ((c.tc : Thread nD τ).loc main_arg1))) (ix3 b s z)
      = rowM (argX m c b s) (argG m c) := by
  refine (refM_at _ b s z).trans ?_
  unfold rowM
  refine congrArg (· * inv448) (Finset.fold_congr fun j _ => ?_)
  exact congrArg (fun q : EReal => max q (-q)) (refH_at _ _ b s j)

/-- The five results at an element. -/
theorem scales_at (b : Fin 4) (s : Fin 1024) (z : Fin 1) :
    scales m c (ix3 b s z) = rScale (rowM (argX m c b s) (argG m c)) := by
  unfold scales rScale
  refine (refScale_at _ b s z).trans (congrArg (Ideal.pow two) ?_)
  exact (refE_at _ b s z).trans (congrArg rExp (M_tok m c b s z))

theorem rows_at (b : Fin 4) (s : Fin 1024) (k : Fin 5120) :
    rows m c (ix2 ⟨b.val * 1024 + s.val, by omega⟩ k)
      = Spec.norm (argX m c b s) (argG m c) k * rInv (rowM (argX m c b s) (argG m c)) := by
  unfold rows rInv
  refine (refScaled_at _ _ b s k).trans (congrArg₂ (· * ·) (refH_at _ _ b s k) ?_)
  refine (refInv_at _ b s 0).trans (congrArg (fun e : EReal => Ideal.pow two (-e)) ?_)
  exact (refE_at _ b s 0).trans (congrArg rExp (M_tok m c b s 0))

theorem codes_tok (b : Fin 4) (s : Fin 1024) (k : Fin 5120) :
    k0_pay1 (F := Ideal) (rows m c) (ix2 ⟨b.val * 1024 + s.val, by omega⟩ k) = code rInv (argX m c b s) (argG m c) k := by
  unfold code
  exact (pay1_at _ _ k).trans (congrArg (fun q : EReal => min hi (max lo q)) (rows_at m c b s k))

theorem castCodes (x : FVec Ideal S4096x5120 .fp8e4m3) (b : Fin 4) (s : Fin 1024) (j : Fin 5120) :
    shapeCast S4x1024x5120 x shapeCasts_S4096x5120_S4x1024x5120 (ix3 b s j) = x (ix2 ⟨b.val * 1024 + s.val, by omega⟩ j) := by
  pointwise []

theorem resCodes_at (b : Fin 4) (s : Fin 1024) (j : Fin 5120) :
    resCodes m c (ix3 b s j) = code rInv (argX m c b s) (argG m c) j := by
  unfold resCodes
  rw [codes_final]
  exact (castCodes _ b s j).trans (codes_tok m c b s j)

theorem projs_at (b : Fin 4) (s : Fin 1024) (h : Fin 20) (a : Fin 3) (d : Fin 128) :
    projs m c (ix5 b s h a d) = proj rScale rInv (argX m c b s) (argG m c) (argW m c) (argS m c) (col h a d) := by
  unfold projs proj
  rw [acc_final]
  refine (refP_at _ _ _ b s h a d).trans ?_
  refine congrArg₂ (· * ·) (congrArg₂ (· * ·) ((pay2_at _ _ _ _).trans ?_) (scales_at m c b s 0)) rfl
  exact Finset.sum_congr rfl fun k _ => congrArg (· * _) (codes_tok m c b s k)

theorem resQ_at (b : Fin 4) (s : Fin 1024) (h : Fin 20) (d : Fin 128) :
    resQ m c (ix4 b s h d)
      = head (fun d => proj rScale rInv (argX m c b s) (argG m c) (argW m c) (argS m c) (col h 0 d)) (argQ m c) d := by
  unfold resQ
  refine (refHead_at _ _ b s h d).trans (congrArg (fun P => head P (argQ m c) d) ?_)
  funext k
  exact (refQ_at _ b s h k).trans (projs_at m c b s h 0 k)
theorem resK_at (b : Fin 4) (s : Fin 1024) (h : Fin 20) (d : Fin 128) :
    resK m c (ix4 b s h d)
      = head (fun d => proj rScale rInv (argX m c b s) (argG m c) (argW m c) (argS m c) (col h 1 d)) (argK m c) d := by
  unfold resK
  refine (refHead_at _ _ b s h d).trans (congrArg (fun P => head P (argK m c) d) ?_)
  funext k
  exact (refK_at _ b s h k).trans (projs_at m c b s h 1 k)
theorem resV_at (b : Fin 4) (s : Fin 1024) (h : Fin 20) (d : Fin 128) :
    resV m c (ix4 b s h d) = proj rScale rInv (argX m c b s) (argG m c) (argW m c) (argS m c) (col h 2 d) := by
  unfold resV
  exact (refV_at _ b s h d).trans (projs_at m c b s h 2 d)

end Cert.ReferenceIdeal.Val

end
-- ==== Proof.Scale.lean ====
/- The kernel's scale is the reference's, and so is its inverse, for every token whose number `m` (Proof/Spec.lean `rowM`)
   is below 2^126; and it is below 2^126 when no gain exceeds the greatest finite bf16 number. -/
module

public import proofs.«01_k».proof.Proof.Spec

@[expose] public section

set_option exponentiation.threshold 4096
set_option maxRecDepth 8192

noncomputable section

namespace Cert.Spec

open Idealize.ShloMosaic

/-! ## Floats with mantissa zero -/

/-- The power of two that a float of exponent field `n` and mantissa zero is. -/
def thr (n : ℕ) : ℝ := (2 : ℝ) ^ ((n : ℤ) - 127)

theorem thr_pos (n : ℕ) : 0 < thr n := zpow_pos (by norm_num) _

theorem thr_lt {a b : ℕ} (h : a < b) : thr a < thr b :=
  zpow_lt_zpow_right₀ (by norm_num) (by omega)

theorem thr_le {a b : ℕ} (h : a ≤ b) : thr a ≤ thr b :=
  zpow_le_zpow_right₀ (by norm_num) (by omega)

theorem thr_succ (a : ℕ) : thr (a + 1) = 2 * thr a := by
  unfold thr
  rw [show (((a + 1 : ℕ) : ℤ) - 127) = ((a : ℤ) - 127) + 1 by push_cast; ring, zpow_add₀ (by norm_num)]
  ring

/-- A shifted field has that exponent field, mantissa zero and sign zero. -/
theorem bits_shift : ∀ n : Fin 256, (BitVec.ofNat 32 n.val <<< 23).extractLsb' 31 1 = 0#1
    ∧ ((BitVec.ofNat 32 n.val <<< 23).extractLsb' 23 8).toNat = n.val
    ∧ ((BitVec.ofNat 32 n.val <<< 23).extractLsb' 0 23).toNat = 0 := by decide +kernel

theorem ofBits_fields (b : BitVec 32) (n : ℕ) (h1 : 1 ≤ n) (h2 : n ≤ 254) (hs : b.extractLsb' 31 1 = 0#1)
    (he : (b.extractLsb' 23 8).toNat = n) (hf : (b.extractLsb' 0 23).toNat = 0) :
    Ideal.ofBits .f32 b = ((thr n : ℝ) : EReal) := by
  show Ideal.ieee 8 23 b = _
  unfold Ideal.ieee
  simp only [Nat.reduceAdd, hs, he, hf]
  rw [if_neg (by omega), if_neg (by omega)]
  unfold thr
  have : (2 : ℝ) ^ ((n : ℤ) - (2 ^ (8 - 1) - 1) - 23) * 2 ^ 23 = 2 ^ ((n : ℤ) - 127) := by
    rw [← zpow_natCast, ← zpow_add₀ (by norm_num)]; congr 1; push_cast; ring
  rw [← this]
  congr 1
  norm_num
  ring

theorem ofBits_shift (n : ℕ) (h1 : 1 ≤ n) (h2 : n ≤ 254) : Ideal.ofBits .f32 (BitVec.ofNat 32 n <<< 23) = ((thr n : ℝ) : EReal) := by
  obtain ⟨hs, he, hf⟩ := bits_shift ⟨n, by omega⟩
  exact ofBits_fields _ n h1 h2 hs he hf

theorem ofBits_fields_top (b : BitVec 32) (hs : b.extractLsb' 31 1 = 0#1)
    (he : (b.extractLsb' 23 8).toNat = 255) (hf : (b.extractLsb' 0 23).toNat = 0) : Ideal.ofBits .f32 b = ⊤ := by
  show Ideal.ieee 8 23 b = _
  unfold Ideal.ieee
  simp only [Nat.reduceAdd, hs, he, hf]
  simp

theorem ofBits_shift_top : Ideal.ofBits .f32 (BitVec.ofNat 32 255 <<< 23) = ⊤ := by
  obtain ⟨hs, he, hf⟩ := bits_shift ⟨255, by omega⟩
  exact ofBits_fields_top _ hs he hf

/-- For a number below 2^126 the comparison with the float of field `n` is the comparison with that power of two, also at
    the greatest field (there the float is `⊤`, and the power 2^128). -/
theorem ofBits_shift_le_iff (m : EReal) (hm : m < ((thr 253 : ℝ) : EReal)) (n : ℕ) (h1 : 1 ≤ n) (h2 : n ≤ 255) :
    Ideal.ofBits .f32 (BitVec.ofNat 32 n <<< 23) ≤ m ↔ ((thr n : ℝ) : EReal) ≤ m := by
  rcases Nat.lt_or_ge n 255 with h | h
  · rw [ofBits_shift n h1 (by omega)]
  · obtain rfl : n = 255 := by omega
    rw [ofBits_shift_top]
    constructor
    · intro h'
      rw [top_le_iff] at h'
      rw [h'] at hm
      exact absurd hm (not_lt.mpr le_top)
    · intro h'
      exact absurd (lt_of_le_of_lt h' hm) (not_lt.mpr (EReal.coe_le_coe_iff.mpr (thr_le (by omega))))

/-! ## The binary search -/

/-- What the search knows: the field found so far, `a`, is not too great and less than `w` too small. -/
def Inv (m : EReal) (a w : ℕ) : Prop :=
  m < ((thr (a + w) : ℝ) : EReal) ∧ (a = 0 ∨ ((thr a : ℝ) : EReal) ≤ m) ∧ a + w ≤ 256

theorem step_inv (m : EReal) (hm : m < ((thr 253 : ℝ) : EReal)) (a b w : ℕ) (hw : w = 2 * b) (hb : 1 ≤ b) (h : Inv m a w) :
    ∃ a', step m (BitVec.ofNat 32 a) (BitVec.ofNat 32 b) = BitVec.ofNat 32 a' ∧ Inv m a' b := by
  obtain ⟨h1, h2, h3⟩ := h
  have hadd : BitVec.ofNat 32 a + BitVec.ofNat 32 b = BitVec.ofNat 32 (a + b) := BitVec.ofNat_add_ofNat ..
  unfold step
  rw [hadd]
  by_cases hc : ((thr (a + b) : ℝ) : EReal) ≤ m
  · refine ⟨a + b, if_pos ((ofBits_shift_le_iff m hm (a + b) (by omega) (by omega)).mpr hc), ?_, Or.inr hc, by omega⟩
    rw [show a + b + b = a + w by omega]; exact h1
  · exact ⟨a, if_neg fun h' => hc ((ofBits_shift_le_iff m hm (a + b) (by omega) (by omega)).mp h'),
      not_le.mp hc, h2, by omega⟩

/-- The search finds the field of the binade `m` lies in, or zero below the normal floats. -/
theorem field_spec (m : EReal) (hm : m < ((thr 253 : ℝ) : EReal)) :
    ∃ a, field m = BitVec.ofNat 32 a ∧ Inv m a 1 := by
  have h0 : Inv m 0 256 := ⟨lt_trans hm (EReal.coe_lt_coe_iff.mpr (thr_lt (by omega))), Or.inl rfl, by omega⟩
  obtain ⟨a1, e1, h1⟩ := step_inv m hm 0 128 256 rfl (by omega) h0
  obtain ⟨a2, e2, h2⟩ := step_inv m hm a1 64 128 rfl (by omega) h1
  obtain ⟨a3, e3, h3⟩ := step_inv m hm a2 32 64 rfl (by omega) h2
  obtain ⟨a4, e4, h4⟩ := step_inv m hm a3 16 32 rfl (by omega) h3
  obtain ⟨a5, e5, h5⟩ := step_inv m hm a4 8 16 rfl (by omega) h4
  obtain ⟨a6, e6, h6⟩ := step_inv m hm a5 4 8 rfl (by omega) h5
  obtain ⟨a7, e7, h7⟩ := step_inv m hm a6 2 4 rfl (by omega) h6
  obtain ⟨a8, e8, h8⟩ := step_inv m hm a7 1 2 rfl (by omega) h7
  refine ⟨a8, ?_, h8⟩
  unfold field
  rw [e1, e2, e3, e4, e5, e6, e7, e8]

/-! ## The two scales -/

theorem tiny_eq : tiny = ((thr 1 : ℝ) : EReal) := ofBits_shift 1 (by omega) (by omega)

theorem two_eq : two = ((2 : ℝ) : EReal) := by
  have h := ofBits_shift 128 (by omega) (by omega)
  have e : thr 128 = 2 := by unfold thr; norm_num
  rw [e] at h; exact h

theorem one_eq : one = ((1 : ℝ) : EReal) := by
  have h := ofBits_shift 127 (by omega) (by omega)
  have e : thr 127 = 1 := by unfold thr; norm_num
  rw [e] at h; exact h

theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- The reference's exponent in the binade of field `a`. -/
theorem rExp_binade (m : EReal) (a : ℕ) (ha : 1 ≤ a) (h1 : ((thr a : ℝ) : EReal) ≤ m) (h2 : m < ((thr (a + 1) : ℝ) : EReal)) :
    rExp m = ((((a : ℤ) - 126 : ℤ) : ℝ) : EReal) := by
  induction m using EReal.rec with
  | bot => exact absurd h1 (not_le.mpr (EReal.bot_lt_coe _))
  | top => exact absurd h2 (not_lt.mpr le_top)
  | coe r =>
    rw [EReal.coe_le_coe_iff] at h1
    rw [EReal.coe_lt_coe_iff] at h2
    have hr : 0 < r := lt_of_lt_of_le (thr_pos a) h1
    unfold rExp
    rw [tiny_eq, if_neg (by rw [EReal.coe_lt_coe_iff]; exact not_lt.mpr (le_trans (thr_le ha) h1)), two_eq, one_eq]
    have hl2 : (0 : ℝ) < Real.log 2 := Real.log_pos (by norm_num)
    have l1 : Ideal.log (r : EReal) = ((Real.log r : ℝ) : EReal) := by
      show (if r ≤ 0 then (⊥ : EReal) else _) = _
      rw [if_neg (not_le.mpr hr)]
    have l2 : Ideal.log ((2 : ℝ) : EReal) = ((Real.log 2 : ℝ) : EReal) := by
      show (if (2 : ℝ) ≤ 0 then (⊥ : EReal) else _) = _
      rw [if_neg (by norm_num)]
    rw [l1, l2, div_coe _ _ hl2.ne']
    have hfl : ⌊Real.log r / Real.log 2⌋ = (a : ℤ) - 127 := by
      rw [Int.floor_eq_iff]
      constructor
      · rw [le_div_iff₀ hl2, ← Real.log_zpow]
        exact Real.log_le_log (thr_pos a) h1
      · rw [div_lt_iff₀ hl2, show (((((a : ℤ) - 127 : ℤ) : ℝ)) + 1) = (((((a + 1 : ℕ) : ℤ) - 127 : ℤ) : ℝ)) by push_cast; ring,
          ← Real.log_zpow]
        exact Real.log_lt_log hr h2
    show ((((⌊Real.log r / Real.log 2⌋ : ℤ) : ℝ) : EReal)) + _ = _
    rw [hfl, ← EReal.coe_add]
    congr 1
    push_cast; ring

theorem pow_two_int (z : ℤ) : Ideal.pow two (((z : ℝ)) : EReal) = (((2 : ℝ) ^ z : ℝ) : EReal) := by
  rw [two_eq]
  show ((Real.rpow 2 (z : ℝ) : ℝ) : EReal) = _
  congr 1
  exact Real.rpow_intCast 2 z

/-- Below 2^126 the two scales agree, and so do their inverses. -/
theorem scale_agree (m : EReal) (hm : m < ((thr 253 : ℝ) : EReal)) : kScale m = rScale m ∧ kInv m = rInv m := by
  obtain ⟨a, hf, h1, h2, h3⟩ := field_spec m hm
  rcases Nat.eq_zero_or_pos a with h0 | h0
  · subst h0
    have hk : kExp m = 0#32 := by unfold kExp; rw [hf]; simp
    have hr : rExp m = (((0 : ℤ) : ℝ) : EReal) := by
      unfold rExp
      rw [tiny_eq, if_pos (by simpa using h1), Ideal.ofBits_zero_f32]; simp
    have hv : Ideal.ofBits .f32 (BitVec.ofNat 32 127 <<< 23) = (((2 : ℝ) ^ (0 : ℤ) : ℝ) : EReal) := by
      rw [ofBits_shift 127 (by omega) (by omega)]; unfold thr; norm_num
    refine ⟨?_, ?_⟩
    · unfold kScale rScale; rw [hk, hr, pow_two_int]; exact hv
    · unfold kInv rInv; rw [hk, hr, ← EReal.coe_neg, ← Int.cast_neg, pow_two_int]; exact hv
  · have hle : ((thr a : ℝ) : EReal) ≤ m := h2.resolve_left (by omega)
    have ha : a < 253 := by
      by_contra hn
      exact absurd (lt_of_le_of_lt hle hm) (not_lt.mpr (EReal.coe_le_coe_iff.mpr (thr_le (by omega))))
    have hr := rExp_binade m a h0 hle h1
    have hk : kExp m = BitVec.ofNat 32 a - 126#32 := by
      unfold kExp
      rw [hf, if_neg]
      rintro (h | h)
      · have := congrArg BitVec.toNat h; simp at this; omega
      · have := congrArg BitVec.toNat h; simp at this; omega
    refine ⟨?_, ?_⟩
    · unfold kScale rScale
      rw [hk, hr, pow_two_int, show 127#32 + (BitVec.ofNat 32 a - 126#32) = BitVec.ofNat 32 (a + 1) by
        apply BitVec.eq_of_toNat_eq; simp; omega, ofBits_shift _ (by omega) (by omega)]
      unfold thr; congr 2; push_cast; ring
    · unfold kInv rInv
      rw [hk, hr, ← EReal.coe_neg, ← Int.cast_neg, pow_two_int, show 127#32 - (BitVec.ofNat 32 a - 126#32) = BitVec.ofNat 32 (253 - a) by
        apply BitVec.eq_of_toNat_eq; simp; omega, ofBits_shift _ (by omega) (by omega)]
      unfold thr; congr 2; rw [Nat.cast_sub (by omega)]; push_cast; ring

/-! ## The bound -/

theorem negInf_eq : negInf = ⊥ := by simp [negInf, Ideal.ofBits, Ideal.ieee]

theorem c5120_eq : c5120 = ((5120 : ℝ) : EReal) := by
  have : c5120 = ((10485760 * 2 ^ (-11 : ℤ) : ℝ) : EReal) := by simp [c5120, Ideal.ofBits, Ideal.ieee]
  rw [this]; norm_num

theorem eps_eq : ∃ e : ℝ, 0 < e ∧ eps = ((e : ℝ) : EReal) :=
  ⟨8796093 * 2 ^ (-43 : ℤ), by positivity, by simp [eps, Ideal.ofBits, Ideal.ieee]⟩

theorem bf16Max_le : bf16Max ≤ (((2 : ℝ) ^ 128 : ℝ) : EReal) := by
  have : bf16Max = ((16711680 * 2 ^ (104 : ℤ) : ℝ) : EReal) := by
    simp [bf16Max, Ideal.ofBits, Ideal.ieee]
  rw [this, EReal.coe_le_coe_iff]; norm_num

theorem inv448_eq : inv448 = ((9586981 / 2 ^ 32 : ℝ) : EReal) := by
  have : inv448 = ((9586981 * 2 ^ (-32 : ℤ) : ℝ) : EReal) := by simp [inv448, Ideal.ofBits, Ideal.ieee]
  rw [this, zpow_neg, div_eq_mul_inv]; norm_cast

/-- The sum of real numbers, as extended reals. -/
theorem coe_sum {n : ℕ} (f : Fin n → ℝ) : ((∑ k, f k : ℝ) : EReal) = ∑ k, (f k : EReal) := by
  have h : ∀ s : Finset (Fin n), ((∑ k ∈ s, f k : ℝ) : EReal) = ∑ k ∈ s, (f k : EReal) := fun s => by
    induction s using Finset.induction_on with
    | empty => simp
    | insert a s ha ih => rw [Finset.sum_insert ha, Finset.sum_insert ha, EReal.coe_add, ih]
  exact h Finset.univ

theorem sq_nonneg_E (x : EReal) : 0 ≤ x * x := by
  induction x using EReal.rec with
  | bot => simp
  | top => simp
  | coe r => rw [← EReal.coe_mul]; exact_mod_cast mul_self_nonneg r

/-- No element of a normalised row is greater than 72 · 2^128 in magnitude: the normalisation leaves at most √5120, the gain
    is a finite bf16 number, and a row holding an infinity normalises to zero. -/
theorem norm_bound (X G : Fin 5120 → EReal) (hG : ∀ j, max (G j) (-(G j)) ≤ bf16Max) (j : Fin 5120) :
    max (norm X G j) (-(norm X G j)) ≤ ((72 * 2 ^ 128 : ℝ) : EReal) := by
  obtain ⟨e, he, hee⟩ := eps_eq
  unfold norm
  rw [c5120_eq, hee]
  by_cases hX : ∃ k, X k = ⊤ ∨ X k = ⊥
  · obtain ⟨k, hk⟩ := hX
    have hS : ∑ k, X k * X k = ⊤ := by
      apply top_le_iff.mp
      refine le_trans (le_of_eq ?_) (Finset.single_le_sum (f := fun k => X k * X k) (fun i _ => sq_nonneg_E (X i)) (Finset.mem_univ k))
      rcases hk with h | h <;> simp [h]
    have hr : Ideal.rsqrt (Ideal.div (∑ k, X k * X k) ((5120 : ℝ) : EReal) + (e : EReal)) = 0 := by
      rw [hS]
      have : Ideal.div ⊤ ((5120 : ℝ) : EReal) = ⊤ := by
        unfold Ideal.div
        rw [if_neg (by norm_num), ← EReal.coe_inv]
        exact EReal.top_mul_coe_of_pos (by norm_num)
      rw [this, EReal.top_add_coe]; rfl
    rw [hr]
    simp only [mul_zero, zero_mul, neg_zero, max_self]
    exact EReal.coe_nonneg.mpr (by positivity)
  · push Not at hX
    obtain ⟨x, hx⟩ : ∃ x : Fin 5120 → ℝ, ∀ k, X k = (x k : EReal) :=
      ⟨fun k => (X k).toReal, fun k => (EReal.coe_toReal (hX k).1 (hX k).2).symm⟩
    have hgj : G j ≠ ⊤ ∧ G j ≠ ⊥ := by
      have h1 := le_trans (hG j) bf16Max_le
      constructor
      · intro h; rw [h] at h1
        exact absurd (lt_of_le_of_lt (le_trans (le_max_left _ _) h1) (EReal.coe_lt_top _)) (lt_irrefl _)
      · intro h; rw [h] at h1
        exact absurd (lt_of_le_of_lt (le_trans (by simp) h1) (EReal.coe_lt_top _)) (lt_irrefl (⊤ : EReal))
    obtain ⟨g, hg⟩ : ∃ g : ℝ, G j = (g : EReal) := ⟨_, (EReal.coe_toReal hgj.1 hgj.2).symm⟩
    have hgb : |g| ≤ 2 ^ 128 := by
      have h1 := le_trans (hG j) bf16Max_le
      rw [hg, ← EReal.coe_neg, max_le_iff, EReal.coe_le_coe_iff, EReal.coe_le_coe_iff] at h1
      exact abs_le'.mpr h1
    have hS : ∑ k, X k * X k = ((∑ k, x k * x k : ℝ) : EReal) := by
      rw [coe_sum]
      exact Finset.sum_congr rfl fun k _ => by rw [hx k, EReal.coe_mul]
    generalize hs : ∑ k, x k * x k = s at hS
    have hsj : x j * x j ≤ s := hs ▸ Finset.single_le_sum (f := fun k => x k * x k) (fun i _ => mul_self_nonneg (x i)) (Finset.mem_univ j)
    have hs0 : 0 ≤ s := le_trans (mul_self_nonneg _) hsj
    have ht : 0 < s / 5120 + e := by positivity
    have hr : Ideal.rsqrt (((s / 5120 + e : ℝ)) : EReal) = (((Real.sqrt (s / 5120 + e))⁻¹ : ℝ) : EReal) := by
      show (if (s / 5120 + e : ℝ) < 0 then (⊥ : EReal) else if (s / 5120 + e : ℝ) = 0 then ⊤ else _) = _
      rw [if_neg (not_lt.mpr ht.le), if_neg ht.ne']
    rw [hS, div_coe _ _ (by norm_num), ← EReal.coe_add, hr, hx j, hg, ← EReal.coe_mul, ← EReal.coe_mul, ← EReal.coe_neg,
      max_le_iff, EReal.coe_le_coe_iff, EReal.coe_le_coe_iff, ← abs_le', abs_mul]
    have hsq : 0 < Real.sqrt (s / 5120 + e) := Real.sqrt_pos.mpr ht
    refine mul_le_mul ?_ hgb (abs_nonneg _) (by norm_num)
    rw [abs_mul, abs_inv, abs_of_pos hsq, ← div_eq_mul_inv, div_le_iff₀ hsq]
    apply abs_le_of_sq_le_sq _ (by positivity)
    rw [mul_pow, Real.sq_sqrt ht.le]
    nlinarith

/-- A token's number stays below 2^126, where the two scales agree. -/
theorem rowM_lt (X G : Fin 5120 → EReal) (hG : ∀ j, max (G j) (-(G j)) ≤ bf16Max) : rowM X G < ((thr 253 : ℝ) : EReal) := by
  have h1 : ((Finset.univ : Finset (Fin 5120)).fold max negInf fun j => max (norm X G j) (-(norm X G j)))
      ≤ ((72 * 2 ^ 128 : ℝ) : EReal) := by
    rw [Finset.fold_max_le, negInf_eq]
    exact ⟨bot_le, fun j _ => norm_bound X G hG j⟩
  unfold rowM
  rw [inv448_eq]
  refine lt_of_le_of_lt (mul_le_mul_of_nonneg_right h1 (EReal.coe_nonneg.mpr (by positivity))) ?_
  rw [← EReal.coe_mul, EReal.coe_lt_coe_iff]
  unfold thr
  norm_num

/-- Under the bound on the gains the kernel's scale of a token is the reference's, and so is the inverse. -/
theorem scales (X G : Fin 5120 → EReal) (hG : ∀ j, max (G j) (-(G j)) ≤ bf16Max) :
    kScale (rowM X G) = rScale (rowM X G) ∧ kInv (rowM X G) = rInv (rowM X G) := scale_agree _ (rowM_lt X G hG)

end Cert.Spec

end
-- ==== Proof.Agree.lean ====
/- The kernel's five results are the reference's, from the same arguments with every gain in range. -/
module

public import proofs.«01_k».proof.Defs
public import proofs.«01_k».proof.Proof.KernelResults
public import proofs.«01_k».proof.Proof.RefResults
public import proofs.«01_k».proof.Proof.Scale

@[expose] public section

set_option maxRecDepth 16384
set_option maxHeartbeats 2000000

noncomputable section

namespace Cert.Agree

open Idealize.ShloMosaic Idealize.ShloMosaic.TcCoe Idealize.SL.Sem Cert.Spec Cert.KernelIdeal

/-- The two facts the precondition's program states. -/
theorem preFacts : Cert.Pre_norm_w_in_range.Facts where
  bitsLt_bf16_f32 := by decide
  bcast_S_S5120 := by decide +kernel

/-- What the precondition says of one gain. -/
theorem gain_le (g : FVec Ideal S5120 .bf16)
    (hb : FTy.bits .bf16 < FTy.bits .f32) (hc : Cert.Pre_norm_w_in_range.S_.BroadcastsInDim S5120 (![] : Fin 0 → Fin S5120.rank)) (j : Fin 5120)
    (h : cmpf .ole (Host.absf (F := Ideal) (extf .f32 g hb)) (broadcastInDim S5120 ![] hc (constant Cert.Pre_norm_w_in_range.S_ .f32 0x7F7F0000#32))
      (ix1 j) = 1#1) : max (g (ix1 j)) (-(g (ix1 j))) ≤ bf16Max := by
  have h' : BitVec.ofBool (decide (max (g (ix1 j)) (-(g (ix1 j))) ≤ bf16Max)) = 1#1 := h
  by_contra hn
  rw [decide_eq_false hn] at h'
  exact absurd h' (by decide)

variable (m : (ℓ : Loc nD τ sig) → Buf (Elt Ideal) ℓ) (ρ : Dev nD → PrngReg) (c : Dev nD)
variable (m' : (ℓ : Loc Cert.ReferenceIdeal.nD Cert.ReferenceIdeal.τ Cert.ReferenceIdeal.sig) → Buf (Elt Ideal) ℓ)

/-- The two programs' arguments agree. -/
def SameArgs : Prop :=
  m' ((c.tc : Thread Cert.ReferenceIdeal.nD Cert.ReferenceIdeal.τ).loc Cert.ReferenceIdeal.main_arg0) = m ((c.tc : Thread nD τ).loc main_arg0)
  ∧ m' ((c.tc : Thread Cert.ReferenceIdeal.nD Cert.ReferenceIdeal.τ).loc Cert.ReferenceIdeal.main_arg1) = m ((c.tc : Thread nD τ).loc main_arg1)
  ∧ m' ((c.tc : Thread Cert.ReferenceIdeal.nD Cert.ReferenceIdeal.τ).loc Cert.ReferenceIdeal.main_arg2) = m ((c.tc : Thread nD τ).loc main_arg2)
  ∧ m' ((c.tc : Thread Cert.ReferenceIdeal.nD Cert.ReferenceIdeal.τ).loc Cert.ReferenceIdeal.main_arg3) = m ((c.tc : Thread nD τ).loc main_arg3)
  ∧ m' ((c.tc : Thread Cert.ReferenceIdeal.nD Cert.ReferenceIdeal.τ).loc Cert.ReferenceIdeal.main_arg4) = m ((c.tc : Thread nD τ).loc main_arg4)
  ∧ m' ((c.tc : Thread Cert.ReferenceIdeal.nD Cert.ReferenceIdeal.τ).loc Cert.ReferenceIdeal.main_arg5) = m ((c.tc : Thread nD τ).loc main_arg5)

/-- Every gain is in range. -/
def GainsInRange : Prop := ∀ j, max (Val.argG m c j) (-(Val.argG m c j)) ≤ bf16Max

variable {m c m'}

/-- The arguments' elements, as the reference reads them, are the kernel's. -/
theorem argX_eq (h : SameArgs m c m') : Cert.ReferenceIdeal.Val.argX m' c = Val.argX m c :=
  funext fun b => funext fun s => funext fun k => congrFun h.1 (ix3 b s k)
theorem argG_eq (h : SameArgs m c m') : Cert.ReferenceIdeal.Val.argG m' c = Val.argG m c :=
  funext fun k => congrFun h.2.1 (ix1 k)
theorem argW_eq (h : SameArgs m c m') : Cert.ReferenceIdeal.Val.argW m' c = Val.argW m c :=
  funext fun k => funext fun n => congrFun h.2.2.1 (ix2 k n)
theorem argS_eq (h : SameArgs m c m') : Cert.ReferenceIdeal.Val.argS m' c = Val.argS m c :=
  funext fun n => congrFun h.2.2.2.1 (ix1 n)
theorem argQ_eq (h : SameArgs m c m') : Cert.ReferenceIdeal.Val.argQ m' c = Val.argQ m c :=
  funext fun k => congrFun h.2.2.2.2.1 (ix1 k)
theorem argK_eq (h : SameArgs m c m') : Cert.ReferenceIdeal.Val.argK m' c = Val.argK m c :=
  funext fun k => congrFun h.2.2.2.2.2 (ix1 k)

/-- A token's code and projections do not depend on which of the two scales is taken. -/
theorem code_eq (X G : Fin 5120 → EReal) (hG : ∀ j, max (G j) (-(G j)) ≤ bf16Max) : code rInv X G = code kInv X G := by
  funext j
  unfold code
  rw [(scales X G hG).2]
theorem proj_eq (X G : Fin 5120 → EReal) (W : Fin 5120 → Fin 7680 → EReal) (S : Fin 7680 → EReal)
    (hG : ∀ j, max (G j) (-(G j)) ≤ bf16Max) : proj rScale rInv X G W S = proj kScale kInv X G W S := by
  funext n
  unfold proj
  rw [code_eq X G hG, (scales X G hG).1]

/-- The five results. -/
theorem q_eq (h : SameArgs m c m') (hG : GainsInRange m c) :
    Cert.ReferenceIdeal.Val.resQ m' c = Gen.W5 m ρ c (Proc.devRef .tc main_v7) := by
  funext i
  obtain ⟨b, s, hd, d, rfl⟩ : ∃ (b : Fin 4) (s : Fin 1024) (hd : Fin 20) (d : Fin 128), i = ix4 b s hd d := ⟨i 0, i 1, i 2, i 3, eq_ix4 i⟩
  refine (Cert.ReferenceIdeal.Val.resQ_at m' c b s hd d).trans (Eq.trans ?_ (Val.v7_at m ρ c b s hd d).symm)
  rw [argX_eq h, argG_eq h, argW_eq h, argS_eq h, argQ_eq h, proj_eq _ _ _ _ hG]
theorem k_eq (h : SameArgs m c m') (hG : GainsInRange m c) :
    Cert.ReferenceIdeal.Val.resK m' c = Gen.W5 m ρ c (Proc.devRef .tc main_v8) := by
  funext i
  obtain ⟨b, s, hd, d, rfl⟩ : ∃ (b : Fin 4) (s : Fin 1024) (hd : Fin 20) (d : Fin 128), i = ix4 b s hd d := ⟨i 0, i 1, i 2, i 3, eq_ix4 i⟩
  refine (Cert.ReferenceIdeal.Val.resK_at m' c b s hd d).trans (Eq.trans ?_ (Val.v8_at m ρ c b s hd d).symm)
  rw [argX_eq h, argG_eq h, argW_eq h, argS_eq h, argK_eq h, proj_eq _ _ _ _ hG]
theorem v_eq (h : SameArgs m c m') (hG : GainsInRange m c) :
    Cert.ReferenceIdeal.Val.resV m' c = Gen.W5 m ρ c (Proc.devRef .tc main_v9) := by
  funext i
  obtain ⟨b, s, hd, d, rfl⟩ : ∃ (b : Fin 4) (s : Fin 1024) (hd : Fin 20) (d : Fin 128), i = ix4 b s hd d := ⟨i 0, i 1, i 2, i 3, eq_ix4 i⟩
  refine (Cert.ReferenceIdeal.Val.resV_at m' c b s hd d).trans (Eq.trans ?_ (Val.v9_at m ρ c b s hd d).symm)
  rw [argX_eq h, argG_eq h, argW_eq h, argS_eq h, proj_eq _ _ _ _ hG]
theorem codes_eq (h : SameArgs m c m') (hG : GainsInRange m c) :
    Cert.ReferenceIdeal.Val.resCodes m' c = Gen.W5 m ρ c (Proc.devRef .tc main_v10) := by
  funext i
  obtain ⟨b, s, j, rfl⟩ : ∃ (b : Fin 4) (s : Fin 1024) (j : Fin 5120), i = ix3 b s j := ⟨i 0, i 1, i 2, eq_ix3 i⟩
  refine (Cert.ReferenceIdeal.Val.resCodes_at m' c b s j).trans (Eq.trans ?_ (Val.v10_at m ρ c b s j).symm)
  rw [argX_eq h, argG_eq h, code_eq _ _ hG]
theorem scale_eq (h : SameArgs m c m') (hG : GainsInRange m c) :
    Cert.ReferenceIdeal.Val.scales m' c = Gen.W5 m ρ c (Proc.devRef .tc main_v11) := by
  funext i
  obtain ⟨b, s, z, rfl⟩ : ∃ (b : Fin 4) (s : Fin 1024) (z : Fin 1), i = ix3 b s z := ⟨i 0, i 1, i 2, eq_ix3 i⟩
  refine (Cert.ReferenceIdeal.Val.scales_at m' c b s z).trans (Eq.trans ?_ (Val.v11_at m ρ c b s z).symm)
  rw [argX_eq h, argG_eq h, (Spec.scales _ _ hG).1]

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Agree
public import Idealize.ShloMosaic.Adequacy
public import Idealize.ShloMosaic.Init

@[expose] public section

noncomputable section

namespace Cert.Proof

open Idealize.ShloMosaic Idealize.ShloMosaic.TcCoe Idealize.SL.Sem Cert.Kernel

/-- From the same arguments, every gain in range, the kernel and the reference both run and leave the same five results. -/
theorem algebraic : Cert.algebraic_KernelIdeal_ReferenceIdeal_pre_norm_w_in_range
    (hKernelIdeal := Cert.KernelIdeal.Gen.facts) (hReferenceIdeal := Cert.ReferenceIdeal.Gen.facts)
    (hPre_norm_w_in_range := Cert.Agree.preFacts) := by
  intro m g m' g' hpre hargs
  have hG : ∀ c, Cert.Agree.GainsInRange m c := fun c j =>
    Cert.Agree.gain_le _ Cert.Agree.preFacts.bitsLt_bf16_f32 Cert.Agree.preFacts.bcast_S_S5120 j (congrFun (hpre c) (ix1 j))
  refine ⟨fun c => Cert.KernelIdeal.Gen.W5 m g c (Proc.devRef .tc Cert.KernelIdeal.main_v7),
    fun c => Cert.KernelIdeal.Gen.W5 m g c (Proc.devRef .tc Cert.KernelIdeal.main_v8),
    fun c => Cert.KernelIdeal.Gen.W5 m g c (Proc.devRef .tc Cert.KernelIdeal.main_v9),
    fun c => Cert.KernelIdeal.Gen.W5 m g c (Proc.devRef .tc Cert.KernelIdeal.main_v10),
    fun c => Cert.KernelIdeal.Gen.W5 m g c (Proc.devRef .tc Cert.KernelIdeal.main_v11),
    Cert.KernelIdeal.Val.run m g, ?_⟩
  refine (θ_run Cert.ReferenceIdeal.defs _ _).mono (fun r h c => ?_) (Cert.ReferenceIdeal.Val.run m' g')
  obtain ⟨hq, hk, hv, hc, hs, hargs'⟩ := h c
  exact ⟨hq.trans (Cert.Agree.q_eq g (hargs c) (hG c)), hk.trans (Cert.Agree.k_eq g (hargs c) (hG c)),
    hv.trans (Cert.Agree.v_eq g (hargs c) (hG c)), hc.trans (Cert.Agree.codes_eq g (hargs c) (hG c)),
    hs.trans (Cert.Agree.scale_eq g (hargs c) (hG c)), hargs'⟩

theorem claim : Cert.Claim :=
  ⟨Cert.Kernel.Gen.facts, Cert.KernelIdeal.Gen.facts, Cert.ReferenceIdeal.Gen.facts, Cert.Agree.preFacts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    trivial, algebraic⟩

end Cert.Proof

end
